-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "log_decay" .f32 0xBCCF674B#32 ((Real.log (39 / 40) : ℝ) : EReal)
  ∧ IdealRules.named_const.Statement Cert.KernelIdeal.κ "smooth" .f32 0x3CCCCCCD#32 ((1 / 40 : ℝ) : EReal)
  ∧ IdealRules.named_const.Statement Cert.KernelIdeal.κ "neg_alpha_log2e" .f32 0xBFB4F8BF#32 (((-49 / 50) * (Real.log 2)⁻¹ : ℝ) : EReal)

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_nonneg : Cert.Pre_nonneg.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ preserves_Kernel_KernelIdeal
    ∧ algebraic_KernelIdeal_ReferenceIdeal_pre_nonneg (hKernelIdeal := hKernelIdeal) (hReferenceIdeal := hReferenceIdeal) (hPre_nonneg := hPre_nonneg)
-- ==== Pre_nonneg.lean ====
abbrev S32x8192x128 : Shape := ⟨3, ![32, 8192, 128]⟩
abbrev S_ : Shape := ⟨0, ![]⟩

class Facts : Prop where
  bcast_S_S32x8192x128 : S_.BroadcastsInDim S32x8192x128 (![] : Fin 0 → Fin S32x8192x128.rank)

variable [Facts]

def fn {F : FTy → Type} [FloatOps F] (main_arg0 : FVec F S32x8192x128 .f32) : IVec S32x8192x128 1 :=
  let main_cst : FVec F S_ .f32 := constant S_ .f32 0x00000000#32
  let main_v0 : FVec F S32x8192x128 .f32 := broadcastInDim S32x8192x128 ![] bcast_S_S32x8192x128 main_cst
  let main_v1 : IVec S32x8192x128 1 := cmpf .oge main_arg0 main_v0
  main_v1
-- ==== Kernel.lean ====
abbrev S32x8192x128 : Shape := ⟨3, ![32, 8192, 128]⟩
abbrev S8x2048x128 : Shape := ⟨3, ![8, 2048, 128]⟩
abbrev S256x256 : Shape := ⟨2, ![256, 256]⟩
abbrev S256x128 : Shape := ⟨2, ![256, 128]⟩
abbrev S8x128 : Shape := ⟨2, ![8, 128]⟩
abbrev S1x1x128 : Shape := ⟨3, ![1, 1, 128]⟩
abbrev S1x128 : Shape := ⟨2, ![1, 128]⟩
abbrev S1x256x128 : Shape := ⟨3, ![1, 256, 128]⟩

abbrev nBuf : Space → Nat
  | .hbm => 2
  | .vmem => 7
  | .smem => 0
  | _ => 0

abbrev bufTy : (tb : Table) → Fin (tcTables nBuf tb) → BufTy
  | .hbm, ⟨0, _⟩ => ⟨S32x8192x128, .f32⟩
  | .hbm, ⟨1, _⟩ => ⟨S32x8192x128, .f32⟩
  | .local _ .vmem, ⟨0, _⟩ => ⟨S8x2048x128, .f32⟩
  | .local _ .vmem, ⟨1, _⟩ => ⟨S8x2048x128, .f32⟩
  | .local _ .vmem, ⟨2, _⟩ => ⟨S8x2048x128, .f32⟩
  | .local _ .vmem, ⟨3, _⟩ => ⟨S8x2048x128, .f32⟩
  | .local _ .vmem, ⟨4, _⟩ => ⟨S256x256, .f32⟩
  | .local _ .vmem, ⟨5, _⟩ => ⟨S256x128, .f32⟩
  | .local _ .vmem, ⟨6, _⟩ => ⟨S8x128, .f32⟩
  | _, _ => ⟨S32x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== KernelIdeal.lean ====
variable {F : FTy → Type} [FloatOps F] [Named F]
def κ : String → Option EReal := fun
  | "log_decay" => some ((Real.log (39 / 40) : ℝ) : EReal)
  | "neg_alpha_log2e" => some (((-49 / 50) * (Real.log 2)⁻¹ : ℝ) : EReal)
  | "smooth" => some ((1 / 40 : ℝ) : EReal)
  | _ => none
-- ==== ReferenceIdeal.lean ====
abbrev S32x8192x128 : Shape := ⟨3, ![32, 8192, 128]⟩
abbrev S_ : Shape := ⟨0, ![]⟩
abbrev S32x8191x128 : Shape := ⟨3, ![32, 8191, 128]⟩
abbrev S8191x32x128 : Shape := ⟨3, ![8191, 32, 128]⟩
abbrev S32x1x128 : Shape := ⟨3, ![32, 1, 128]⟩
abbrev S32x128 : Shape := ⟨2, ![32, 128]⟩
abbrev S1x32x128 : Shape := ⟨3, ![1, 32, 128]⟩

abbrev nBuf : Space → Nat
  | .hbm => 56
  | .vmem => 0
  | .smem => 0
  | _ => 0

abbrev bufTy : (tb : Table) → Fin (tcTables nBuf tb) → BufTy
  | .hbm, ⟨0, _⟩ => ⟨S32x8192x128, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S32x8191x128, .f32⟩
  | .hbm, ⟨5, _⟩ => ⟨S8191x32x128, .f32⟩
  | .hbm, ⟨6, _⟩ => ⟨S32x1x128, .f32⟩
  | .hbm, ⟨7, _⟩ => ⟨S32x128, .f32⟩
  | .hbm, ⟨8, _⟩ => ⟨S_, .f32⟩
  | .hbm, ⟨9, _⟩ => ⟨S8191x32x128, .f32⟩
  | .hbm, ⟨10, _⟩ => ⟨S_, .i32⟩
  | .hbm, ⟨11, _⟩ => ⟨S8191x32x128, .f32⟩
  | .hbm, ⟨12, _⟩ => ⟨S_, .f32⟩
  | .hbm, ⟨13, _⟩ => ⟨S_, .i32⟩
  | .hbm, ⟨14, _⟩ => ⟨S32x128, .f32⟩
  | .hbm, ⟨15, _⟩ => ⟨S8191x32x128, .f32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S1x32x128, .f32⟩
  | .hbm, ⟨21, _⟩ => ⟨S32x128, .f32⟩
  | .hbm, ⟨22, _⟩ => ⟨S_, .f32⟩
  | .hbm, ⟨23, _⟩ => ⟨S_, .f32⟩
  | .hbm, ⟨24, _⟩ => ⟨S32x128, .f32⟩
  | .hbm, ⟨25, _⟩ => ⟨S32x128, .f32⟩
  | .hbm, ⟨26, _⟩ => ⟨S32x128, .f32⟩
  | .hbm, ⟨27, _⟩ => ⟨S32x128, .f32⟩
  | .hbm, ⟨28, _⟩ => ⟨S32x128, .f32⟩
  | .hbm, ⟨29, _⟩ => ⟨S1x32x128, .f32⟩
  | .hbm, ⟨30, _⟩ => ⟨S_, .i32⟩
  | .hbm, ⟨31, _⟩ => ⟨S_, .i32⟩
  | .hbm, ⟨32, _⟩ => ⟨S8191x32x128, .f32⟩
  | .hbm, ⟨33, _⟩ => ⟨S_, .i32⟩
  | .hbm, ⟨34, _⟩ => ⟨S_, .i32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S32x1x128, .f32⟩
  | .hbm, ⟨39, _⟩ => ⟨S32x8191x128, .f32⟩
  | .hbm, ⟨40, _⟩ => ⟨S32x8192x128, .f32⟩
  | .hbm, ⟨41, _⟩ => ⟨S_, .f32⟩
  | .hbm, ⟨42, _⟩ => ⟨S32x8192x128, .f32⟩
  | .hbm, ⟨43, _⟩ => ⟨S32x8192x128, .f32⟩
  | .hbm, ⟨44, _⟩ => ⟨S32x8192x128, .f32⟩
  | .hbm, ⟨45, _⟩ => ⟨S32x8192x128, .f32⟩
  | .hbm, ⟨46, _⟩ => ⟨S32x8192x128, .f32⟩
  | .hbm, ⟨47, _⟩ => ⟨S_, .f32⟩
  | .hbm, ⟨48, _⟩ => ⟨S32x8192x128, .f32⟩
  | .hbm, ⟨49, _⟩ => ⟨S32x8192x128, .f32⟩
  | .hbm, ⟨50, _⟩ => ⟨S_, .f32⟩
  | .hbm, ⟨51, _⟩ => ⟨S32x8192x128, .f32⟩
  | .hbm, ⟨52, _⟩ => ⟨S32x8192x128, .f32⟩
  | .hbm, ⟨53, _⟩ => ⟨S_, .f32⟩
  | .hbm, ⟨54, _⟩ => ⟨S32x8192x128, .f32⟩
  | .hbm, ⟨55, _⟩ => ⟨S32x8192x128, .f32⟩
  | _, _ => ⟨S32x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_c : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev main_while0c_c_12 : Ref sig .tc := ⟨.hbm, 16, rfl⟩
abbrev main_while0c_v22 : Ref sig .tc := ⟨.hbm, 17, rfl⟩
abbrev main_while0b_call0_c : Ref sig .tc := ⟨.hbm, 18, rfl⟩
abbrev main_while0b_call0_c_0 : Ref sig .tc := ⟨.hbm, 19, rfl⟩
abbrev main_while0b_call0_v0 : Ref sig .tc := ⟨.hbm, 20, rfl⟩
abbrev main_while0b_v22 : Ref sig .tc := ⟨.hbm, 21, rfl⟩
abbrev main_while0b_cst_12 : Ref sig .tc := ⟨.hbm, 22, rfl⟩
abbrev main_while0b_v23 : Ref sig .tc := ⟨.hbm, 23, rfl⟩
abbrev main_while0b_v24 : Ref sig .tc := ⟨.hbm, 24, rfl⟩
abbrev main_while0b_v25 : Ref sig .tc := ⟨.hbm, 25, rfl⟩
abbrev main_while0b_v26 : Ref sig .tc := ⟨.hbm, 26, rfl⟩
abbrev main_while0b_v27 : Ref sig .tc := ⟨.hbm, 27, rfl⟩
abbrev main_while0b_v28 : Ref sig .tc := ⟨.hbm, 28, rfl⟩
abbrev main_while0b_call1_v0 : Ref sig .tc := ⟨.hbm, 29, rfl⟩
abbrev main_while0b_call1_c : Ref sig .tc := ⟨.hbm, 30, rfl⟩
abbrev main_while0b_call1_c_0 : Ref sig .tc := ⟨.hbm, 31, rfl⟩
abbrev main_while0b_v29 : Ref sig .tc := ⟨.hbm, 32, rfl⟩
abbrev main_while0b_c_13 : Ref sig .tc := ⟨.hbm, 33, rfl⟩
abbrev main_while0b_v30 : Ref sig .tc := ⟨.hbm, 34, rfl⟩
abbrev main_cst_2 : Ref sig .tc := ⟨.hbm, 35, rfl⟩
abbrev main_cst_3 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst_4 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_5 : Ref sig .tc := ⟨.hbm, 47, rfl⟩
abbrev main_v16 : Ref sig .tc := ⟨.hbm, 48, rfl⟩
abbrev main_v17 : Ref sig .tc := ⟨.hbm, 49, rfl⟩
abbrev main_cst_6 : Ref sig .tc := ⟨.hbm, 50, rfl⟩
abbrev main_v18 : Ref sig .tc := ⟨.hbm, 51, rfl⟩
abbrev main_v19 : Ref sig .tc := ⟨.hbm, 52, rfl⟩
abbrev main_cst_7 : Ref sig .tc := ⟨.hbm, 53, rfl⟩
abbrev main_v20 : Ref sig .tc := ⟨.hbm, 54, rfl⟩
abbrev main_v21 : Ref sig .tc := ⟨.hbm, 55, rfl⟩

abbrev nD : Nat := 1
abbrev τ : Topo := Topo.v7x

variable {F : FTy → Type} [FloatOps F]

abbrev main_while0_count : Scf.Loop 32 := ⟨0#32, 8191#32, 1#32⟩
-- ==== Proof.KernelIdeal.Cond.lean ====
/- The kernel's operands as memrefs, the one branch of its body as a statement about the point, and the scoped
   buffers a launch starts with. -/
module

public import proofs.«01_k».proof.Proof.Gen.KernelIdeal.Frame
public import proofs.«01_k».proof.Proof.Gen.KernelIdeal.Skeleton

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The time coordinate of a grid point is zero, as the kernel tests it. -/
abbrev atStart (i : grid0.Coords) : BitVec 1 := Scalar.cmpi .eq (BitVec.ofNat 32 (i 1).val) 0#32

/-- The kernel's branch: both coordinates are zero, as the kernel tests it. -/
abbrev First (i : grid0.Coords) : Prop :=
  (Scalar.cmpi .ne (Scalar.extui (Scalar.andi (Scalar.cmpi .eq (BitVec.ofNat 32 (i 0).val) 0#32) (atStart i))) 0#32) = 1#1

theorem coord0 (t : Fin cfg0.N) : (grid0.coords t 0).val = t.val / 4 % 4 :=
  Pipeline.Grid.coords_val t 0 (by decide) rfl

theorem coord1 (t : Fin cfg0.N) : (grid0.coords t 1).val = t.val / 1 % 4 :=
  Pipeline.Grid.coords_val t 1 (by decide) rfl

/-- The branch is taken at the first point only. -/
theorem first_iff (t : Fin cfg0.N) : First (grid0.coords t) ↔ t.val = 0 := by
  have ht : t.val < 16 := Nat.lt_of_lt_of_eq t.isLt N_0
  simp only [First, atStart, coord0, coord1]
  word_cmp

/-- The kernel's test of the time coordinate, in closed form. -/
theorem atStart_iff (t : Fin cfg0.N) : atStart (grid0.coords t) = 1#1 ↔ t.val % 4 = 0 := by
  have ht : t.val < 16 := Nat.lt_of_lt_of_eq t.isLt N_0
  simp only [atStart, coord1]
  word_cmp

/-- The staging memrefs at a point, and the scratch memrefs. -/
abbrev xM (t : Fin cfg0.N) : Memref sig .tc .vmem S8x2048x128 .f32 := win0_0.stage (cfg0.slots t 0)
abbrev xW (t : Fin cfg0.N) : (xM t).IsWhole := hstage0_0 ((cfg0.slots t 0).cast nbuf0_0)
abbrev oM (t : Fin cfg0.N) : Memref sig .tc .vmem S8x2048x128 .f32 := win0_1.stage (cfg0.slots t 1)
abbrev oW (t : Fin cfg0.N) : (oM t).IsWhole := hstage0_1 ((cfg0.slots t 1).cast nbuf0_1)
abbrev lM : Memref sig .tc .vmem S256x256 .f32 := Memref.whole cc0_scratch0
abbrev pM : Memref sig .tc .vmem S256x128 .f32 := Memref.whole cc0_scratch1
abbrev mM : Memref sig .tc .vmem S8x128 .f32 := Memref.whole cc0_scratch2

/-- What a launch hands the body: the three scratch buffers at anything, and the generator register. -/
theorem scratch_eq (c : Dev nD) :
    (Pipeline.ΦA spec0 c : sProp 𝕄)
      = iprop(iprop((∃ d, owns (c : Thread nD τ) lM fullShare d) ∗ (∃ d, owns (c : Thread nD τ) pM fullShare d)
          ∗ (∃ d, owns (c : Thread nD τ) mM fullShare d)) ∗ (∃ r, prngReg c r)) := by
  unfold Pipeline.ΦA; rw [scopedRest0_eq]; simp only [lM, pM, mM, owns_whole]; try rfl

end Cert.KernelIdeal.Body

end
-- ==== Proof.KernelIdeal.RunA.lean ====
/- The body at the first point: what its stores leave, found by running it. -/
module

public import proofs.«01_k».proof.Proof.KernelIdeal.Cond

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 20000000 in
/-- At the first point: the stores into the output block, the two tables and the carried rows, with the proof that the
    body runs to them, the input block as it was. -/
noncomputable def runA (c : Dev nD) (i : grid0.Coords)
    (arg2 : Memref sig .tc .vmem S8x2048x128 .f32) (harg2 : arg2.IsWhole) (arg3 : Memref sig .tc .vmem S8x2048x128 .f32) (harg3 : arg3.IsWhole)
    (arg4 : Memref sig .tc .vmem S256x256 .f32) (harg4 : arg4.IsWhole) (arg5 : Memref sig .tc .vmem S256x128 .f32) (harg5 : arg5.IsWhole)
    (arg6 : Memref sig .tc .vmem S8x128 .f32) (harg6 : arg6.IsWhole) (hi : First i)
    (x : Vec F S8x2048x128 .f32) (r : Vec F S8x128 .f32) :
    Σ' (O : List (View.Piece (Elt F) S8x2048x128 .f32)), Σ' (L : List (View.Piece (Elt F) S256x256 .f32)), Σ' (P : List (View.Piece (Elt F) S256x128 .f32)), { M : List (View.Piece (Elt F) S8x128 .f32) //
      ∀ (E : Set ℕ) (K : PUnit → sProp 𝕄),
        iprop(owns (c : Thread nD τ) arg2 fullShare x ∗ (∃ d, owns (c : Thread nD τ) arg3 fullShare d)
            ∗ (∃ d, owns (c : Thread nD τ) arg4 fullShare d) ∗ (∃ d, owns (c : Thread nD τ) arg5 fullShare d) ∗ owns (c : Thread nD τ) arg6 fullShare r
            ∗ (iprop(owns (c : Thread nD τ) arg2 fullShare x
                ∗ (∃ f, arg3.view.loc (c : Thread nD τ) ↦[arg3.view.set]{fullShare} arg3.view.writes (Elt F) f O)
                ∗ (∃ f, arg4.view.loc (c : Thread nD τ) ↦[arg4.view.set]{fullShare} arg4.view.writes (Elt F) f L)
                ∗ (∃ f, arg5.view.loc (c : Thread nD τ) ↦[arg5.view.set]{fullShare} arg5.view.writes (Elt F) f P)
                ∗ (arg6.view.loc (c : Thread nD τ) ↦[arg6.view.set]{fullShare} arg6.view.writes (Elt F) (harg6.unread r) M)) -∗ K ⟨⟩))
          ⊢ wp frame (wpE (defs₀ (F := F)) Variants.none c none) E
              (cc0__pcen_kernel i arg2 harg2 arg3 harg3 arg4 harg4 arg5 harg5 arg6 harg6) K } := by
  refine ⟨?_, ?_, ?_, ?_, fun E K => ?run⟩
  case run =>
    simp only [cc0__pcen_kernel_eq_skeleton]; unfold cc0__pcen_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f2, %hf2, H2⟩, ⟨%d3, %f3, -, H3⟩, ⟨%d4, %f4, -, H4⟩, ⟨%d5, %f5, -, H5⟩, ⟨%f6, %hf6, H6⟩, Hk⟩
    obtain rfl := harg2.eq_unread hf2; obtain rfl := harg6.eq_unread hf6
    sl_exec (disch := first | sl_exact hi)
    sl_step
    iapply Hk
    isplitl [H2]
    · iexists _; isplitr; · ipureintro; exact harg2.read_unread _
      iexact H2
    isplitl [H3]; · iexists _; iexact H3
    isplitl [H4]; · iexists _; iexact H4
    isplitl [H5]; · iexists _; iexact H5
    iexact H6

end Cert.KernelIdeal.Body

end
-- ==== Proof.KernelIdeal.RunB.lean ====
/- The body at every point but the first: what its stores leave, found by running it. -/
module

public import proofs.«01_k».proof.Proof.KernelIdeal.Cond

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 20000000 in
/-- At a point that is not the first: the stores into the output block and into the carried rows, with the proof that
    the body runs to them, the input block and the two tables as they were. -/
noncomputable def runB (c : Dev nD) (i : grid0.Coords)
    (arg2 : Memref sig .tc .vmem S8x2048x128 .f32) (harg2 : arg2.IsWhole) (arg3 : Memref sig .tc .vmem S8x2048x128 .f32) (harg3 : arg3.IsWhole)
    (arg4 : Memref sig .tc .vmem S256x256 .f32) (harg4 : arg4.IsWhole) (arg5 : Memref sig .tc .vmem S256x128 .f32) (harg5 : arg5.IsWhole)
    (arg6 : Memref sig .tc .vmem S8x128 .f32) (harg6 : arg6.IsWhole) (hi : ¬First i)
    (x : Vec F S8x2048x128 .f32) (l : Vec F S256x256 .f32) (p : Vec F S256x128 .f32) (r : Vec F S8x128 .f32) :
    Σ' (O : List (View.Piece (Elt F) S8x2048x128 .f32)), { M : List (View.Piece (Elt F) S8x128 .f32) //
      ∀ (E : Set ℕ) (K : PUnit → sProp 𝕄),
        iprop(owns (c : Thread nD τ) arg2 fullShare x ∗ (∃ d, owns (c : Thread nD τ) arg3 fullShare d)
            ∗ owns (c : Thread nD τ) arg4 fullShare l ∗ owns (c : Thread nD τ) arg5 fullShare p ∗ owns (c : Thread nD τ) arg6 fullShare r
            ∗ (iprop(owns (c : Thread nD τ) arg2 fullShare x
                ∗ (∃ f, arg3.view.loc (c : Thread nD τ) ↦[arg3.view.set]{fullShare} arg3.view.writes (Elt F) f O)
                ∗ owns (c : Thread nD τ) arg4 fullShare l ∗ owns (c : Thread nD τ) arg5 fullShare p
                ∗ (arg6.view.loc (c : Thread nD τ) ↦[arg6.view.set]{fullShare} arg6.view.writes (Elt F) (harg6.unread r) M)) -∗ K ⟨⟩))
          ⊢ wp frame (wpE (defs₀ (F := F)) Variants.none c none) E
              (cc0__pcen_kernel i arg2 harg2 arg3 harg3 arg4 harg4 arg5 harg5 arg6 harg6) K } := by
  refine ⟨?_, ?_, fun E K => ?run⟩
  case run =>
    simp only [cc0__pcen_kernel_eq_skeleton]; unfold cc0__pcen_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f2, %hf2, H2⟩, ⟨%d3, %f3, -, H3⟩, ⟨%f4, %hf4, H4⟩, ⟨%f5, %hf5, H5⟩, ⟨%f6, %hf6, H6⟩, Hk⟩
    obtain rfl := harg2.eq_unread hf2; obtain rfl := harg4.eq_unread hf4
    obtain rfl := harg5.eq_unread hf5; obtain rfl := harg6.eq_unread hf6
    sl_exec (disch := first | sl_exact hi)
    sl_step
    iapply Hk
    isplitl [H2]
    · iexists _; isplitr; · ipureintro; exact harg2.read_unread _
      iexact H2
    isplitl [H3]; · iexists _; iexact H3
    isplitl [H4]
    · iexists _; isplitr; · ipureintro; exact harg4.read_unread _
      iexact H4
    isplitl [H5]
    · iexists _; isplitr; · ipureintro; exact harg5.read_unread _
      iexact H5
    iexact H6

end Cert.KernelIdeal.Body

end
-- ==== Proof.KernelIdeal.Tile.lean ====
/- What one grid point of the kernel computes, in closed form: eight rows of the block, each cut into eight chunks of
   256 time steps, the last smoothed row of a chunk carried into the next one; and the stores of the body as those
   chunks. -/
module

public import proofs.«01_k».proof.Proof.KernelIdeal.RunA
public import proofs.«01_k».proof.Proof.KernelIdeal.RunB
public import Idealize.ShloMosaic.Lib.Pointwise

@[expose] public section

set_option maxRecDepth 16384

noncomputable section

namespace Cert.KernelIdeal.Body

open Idealize.ShloMosaic Idealize.ShloMosaic.TcCoe Idealize.ShloMosaic.Tactic
open Cert.KernelIdeal.Gen

variable {F : FTy → Type} [FloatOps F] [Named F]

/-- Chunk `k` of row `b` of a block, its first time step, and row `b` of the carried rows. -/
abbrev chunkR (b k : Fin 8) : Rect S8x2048x128 :=
  Rect.unit ![b.val, 256 * k.val, 0] S1x256x128.size (by
    have := b.isLt; have := k.isLt
    intro a; fin_cases a <;> simp <;> omega)
abbrev headR (b : Fin 8) : Rect S8x2048x128 :=
  Rect.unit ![b.val, 0, 0] S1x1x128.size (by
    have := b.isLt
    intro a; fin_cases a <;> simp <;> omega)
abbrev rowR (b : Fin 8) : Rect S8x128 :=
  Rect.unit ![b.val, 0] S1x128.size (by
    have := b.isLt
    intro a; fin_cases a <;> simp <;> omega)

/-- The row the first chunk starts from: the block's first time step at the start of time, the carried row later. -/
def firstRow (s : BitVec 1) (h : Vec F S1x1x128 .f32) (r : Vec F S1x128 .f32) : FVec F S1x128 .f32 :=
  Scalar.select s (shapeCast S1x128 h shapeCasts_S1x1x128_S1x128) r

/-- The row before chunk `k`: the chunks before it applied to the first row, the last row of each handed on. -/
def prevRow (q : FVec F S1x128 .f32) (X : Fin 8 → Vec F S1x256x128 .f32) (l : Vec F S256x256 .f32) (p : Vec F S256x128 .f32) :
    ℕ → FVec F S1x128 .f32
  | 0 => q
  | k + 1 => extractStridedSlice S1x128 ![255, 0] (k0_pay1 (prevRow q X l p k) (k0_pay6 (X (Fin.ofNat 8 k))) l p)
      slices_S256x128_o255_0_S1x128

/-- The output tile of chunk `k`. -/
def outTile (q : FVec F S1x128 .f32) (X : Fin 8 → Vec F S1x256x128 .f32) (l : Vec F S256x256 .f32) (p : Vec F S256x128 .f32)
    (k : Fin 8) : FVec F S1x256x128 .f32 :=
  k0_pay2 (prevRow q X l p k.val) (k0_pay6 (X k)) l p

/-- The row a block's row hands to the next grid point. -/
def endRow (q : FVec F S1x128 .f32) (X : Fin 8 → Vec F S1x256x128 .f32) (l : Vec F S256x256 .f32) (p : Vec F S256x128 .f32) :
    FVec F S1x128 .f32 :=
  k0_pay3 (prevRow q X l p 7) (k0_pay6 (X 7)) l p

/-- Eight positions, the last first. -/
def downFrom7 : List (Fin 8) := [7, 6, 5, 4, 3, 2, 1, 0]

theorem mem_downFrom7 (b : Fin 8) : b ∈ downFrom7 := by revert b; decide

/-- The stores into the output block, the last first. -/
def outPieces (q : Fin 8 → FVec F S1x128 .f32) (X : Fin 8 → Fin 8 → Vec F S1x256x128 .f32)
    (l : Vec F S256x256 .f32) (p : Vec F S256x128 .f32) : List (View.Piece (Elt F) S8x2048x128 .f32) :=
  downFrom7.flatMap fun b => downFrom7.map fun k => ⟨chunkR b k, outTile (q b) (X b) l p k⟩

/-- The stores into the carried rows, the last first. -/
def rowPieces (q : Fin 8 → FVec F S1x128 .f32) (X : Fin 8 → Fin 8 → Vec F S1x256x128 .f32)
    (l : Vec F S256x256 .f32) (p : Vec F S256x128 .f32) : List (View.Piece (Elt F) S8x128 .f32) :=
  downFrom7.map fun b => ⟨rowR b, endRow (q b) (X b) l p⟩

section Found

variable (c : Dev nD) (i : grid0.Coords)
    (arg2 : Memref sig .tc .vmem S8x2048x128 .f32) (harg2 : arg2.IsWhole) (arg3 : Memref sig .tc .vmem S8x2048x128 .f32) (harg3 : arg3.IsWhole)
    (arg4 : Memref sig .tc .vmem S256x256 .f32) (harg4 : arg4.IsWhole) (arg5 : Memref sig .tc .vmem S256x128 .f32) (harg5 : arg5.IsWhole)
    (arg6 : Memref sig .tc .vmem S8x128 .f32) (harg6 : arg6.IsWhole)
    (x : Vec F S8x2048x128 .f32) (l : Vec F S256x256 .f32) (p : Vec F S256x128 .f32) (r : Vec F S8x128 .f32)

/-- The loads of the body, as the run reads them through the memrefs. -/
abbrev rawHead (b : Fin 8) : Vec F S1x1x128 .f32 := View.readAt (Elt F) arg2.view (headR b).toLoadRect (harg2.unread x)
abbrev rawChunk (b k : Fin 8) : Vec F S1x256x128 .f32 := View.readAt (Elt F) arg2.view (chunkR b k).toLoadRect (harg2.unread x)
abbrev rawRow (b : Fin 8) : Vec F S1x128 .f32 := View.readAt (Elt F) arg6.view (rowR b).toLoadRect (harg6.unread r)
abbrev rawL : Vec F S256x256 .f32 :=
  View.readAt (Elt F) arg4.view (Rect.unit (s := S256x256) ![0, 0] S256x256.size (by decide)).toLoadRect (harg4.unread l)
abbrev rawP : Vec F S256x128 .f32 :=
  View.readAt (Elt F) arg5.view (Rect.unit (s := S256x128) ![0, 0] S256x128.size (by decide)).toLoadRect (harg5.unread p)

theorem runB_out (hi : ¬First i) :
    (runB c i arg2 harg2 arg3 harg3 arg4 harg4 arg5 harg5 arg6 harg6 hi x l p r).1
      = outPieces (fun b => firstRow (atStart i) (rawHead arg2 harg2 x b) (rawRow arg6 harg6 r b))
          (rawChunk arg2 harg2 x) (rawL arg4 harg4 l) (rawP arg5 harg5 p) := by
  sl_kernel_rfl

theorem runB_rows (hi : ¬First i) :
    (runB c i arg2 harg2 arg3 harg3 arg4 harg4 arg5 harg5 arg6 harg6 hi x l p r).2.1
      = rowPieces (fun b => firstRow (atStart i) (rawHead arg2 harg2 x b) (rawRow arg6 harg6 r b))
          (rawChunk arg2 harg2 x) (rawL arg4 harg4 l) (rawP arg5 harg5 p) := by
  sl_kernel_rfl

/-- The stores of the two tables, each of the whole buffer. -/
def lPieces : List (View.Piece (Elt F) S256x256 .f32) := [⟨Rect.unit (s := S256x256) ![0, 0] S256x256.size (by decide), k0_pay4⟩]
def pPieces : List (View.Piece (Elt F) S256x128 .f32) := [⟨Rect.unit (s := S256x128) ![0, 0] S256x128.size (by decide), k0_pay5⟩]

/-- The tables as the first point reads them back. -/
abbrev covL : Vec F S256x256 .f32 :=
  arg4.view.readCov lPieces (Rect.unit (s := S256x256) ![0, 0] S256x256.size (by decide)).toLoadRect
abbrev covP : Vec F S256x128 .f32 :=
  arg5.view.readCov pPieces (Rect.unit (s := S256x128) ![0, 0] S256x128.size (by decide)).toLoadRect

theorem runA_out (hi : First i) :
    (runA c i arg2 harg2 arg3 harg3 arg4 harg4 arg5 harg5 arg6 harg6 hi x r).1
      = outPieces (fun b => firstRow (atStart i) (rawHead arg2 harg2 x b) (rawRow arg6 harg6 r b))
          (rawChunk arg2 harg2 x) (covL arg4) (covP arg5) := by
  sl_kernel_rfl

theorem runA_l (hi : First i) :
    (runA c i arg2 harg2 arg3 harg3 arg4 harg4 arg5 harg5 arg6 harg6 hi x r).2.1 = lPieces := by
  sl_kernel_rfl

theorem runA_p (hi : First i) :
    (runA c i arg2 harg2 arg3 harg3 arg4 harg4 arg5 harg5 arg6 harg6 hi x r).2.2.1 = pPieces := by
  sl_kernel_rfl

theorem runA_rows (hi : First i) :
    (runA c i arg2 harg2 arg3 harg3 arg4 harg4 arg5 harg5 arg6 harg6 hi x r).2.2.2.1
      = rowPieces (fun b => firstRow (atStart i) (rawHead arg2 harg2 x b) (rawRow arg6 harg6 r b))
          (rawChunk arg2 harg2 x) (covL arg4) (covP arg5) := by
  sl_kernel_rfl

theorem covL_eq : covL (F := F) arg4 = k0_pay4 := View.readCov_unit_zero _ (by decide) _ _
theorem covP_eq : covP (F := F) arg5 = k0_pay5 := View.readCov_unit_zero _ (by decide) _ _

theorem rawHead_eq (b : Fin 8) : rawHead arg2 harg2 x b = View.ld x (headR b) := by
  unfold rawHead; rw [View.readAt_eq_ld, harg2.read_unread]
theorem rawChunk_eq (b k : Fin 8) : rawChunk arg2 harg2 x b k = View.ld x (chunkR b k) := by
  unfold rawChunk; rw [View.readAt_eq_ld, harg2.read_unread]
theorem rawRow_eq (b : Fin 8) : rawRow arg6 harg6 r b = View.ld r (rowR b) := by
  unfold rawRow; rw [View.readAt_eq_ld, harg6.read_unread]
theorem rawL_eq : rawL arg4 harg4 l = l := by
  unfold rawL; rw [View.readAt_eq_ld, harg4.read_unread]; exact View.ld_unit_zero (by decide) _ _
theorem rawP_eq : rawP arg5 harg5 p = p := by
  unfold rawP; rw [View.readAt_eq_ld, harg5.read_unread]; exact View.ld_unit_zero (by decide) _ _

end Found

/-- The first row of row `b` of a block, and its chunks. -/
def startRow (s : BitVec 1) (x : Vec F S8x2048x128 .f32) (r : Vec F S8x128 .f32) (b : Fin 8) : FVec F S1x128 .f32 :=
  firstRow s (View.ld x (headR b)) (View.ld r (rowR b))
def chunks (x : Vec F S8x2048x128 .f32) (b k : Fin 8) : Vec F S1x256x128 .f32 := View.ld x (chunkR b k)

/-- A block made of tiles, and rows made of row vectors. -/
def tiled (T : Fin 8 → Fin 8 → Vec F S1x256x128 .f32) : Vec F S8x2048x128 .f32 := fun j =>
  T (j 0) (Fin.ofNat 8 ((j 1).val / 256)) (ix3 (0 : Fin 1) (⟨(j 1).val % 256, Nat.mod_lt _ (by decide)⟩ : Fin 256) (j 2))
def stacked (R : Fin 8 → Vec F S1x128 .f32) : Vec F S8x128 .f32 := fun j => R (j 0) (ix2 (0 : Fin 1) (j 1))

/-- The output block and the carried rows a grid point leaves. -/
def outBlock (s : BitVec 1) (x : Vec F S8x2048x128 .f32) (r : Vec F S8x128 .f32) (l : Vec F S256x256 .f32) (p : Vec F S256x128 .f32) :
    Vec F S8x2048x128 .f32 :=
  tiled fun b k => outTile (startRow s x r b) (chunks x b) l p k
def newRows (s : BitVec 1) (x : Vec F S8x2048x128 .f32) (r : Vec F S8x128 .f32) (l : Vec F S256x256 .f32) (p : Vec F S256x128 .f32) :
    Vec F S8x128 .f32 :=
  stacked fun b => endRow (startRow s x r b) (chunks x b) l p

theorem tiled_at (T : Fin 8 → Fin 8 → Vec F S1x256x128 .f32) (b k : Fin 8) (z : S1x256x128.Idx) :
    tiled T ((chunkR b k).emb z) = T b k z := by
  have hz : (z 0).val = 0 := Nat.lt_one_iff.mp (z 0).isLt
  have h1 : (z 1).val < 256 := (z 1).isLt
  have hk := k.isLt
  have e0 : (chunkR b k).emb z 0 = b := Fin.ext (by show b.val + 1 * (z 0).val = b.val; omega)
  have e1 : ((chunkR b k).emb z 1).val = 256 * k.val + (z 1).val := by
    show 256 * k.val + 1 * (z 1).val = _; omega
  have e2 : (chunkR b k).emb z 2 = z 2 := Fin.ext (by show 0 + 1 * (z 2).val = (z 2).val; omega)
  have ek : Fin.ofNat 8 (((chunkR b k).emb z 1).val / 256) = k := Fin.ext (by
    show ((chunkR b k).emb z 1).val / 256 % 8 = k.val; rw [e1]; omega)
  unfold tiled
  rw [e0, ek]
  refine congrArg (T b k) (funext fun a => ?_)
  fin_cases a
  · exact Fin.ext hz.symm
  · exact Fin.ext (by show ((chunkR b k).emb z 1).val % 256 = (z 1).val; rw [e1]; omega)
  · exact e2

theorem stacked_at (R : Fin 8 → Vec F S1x128 .f32) (b : Fin 8) (z : S1x128.Idx) :
    stacked R ((rowR b).emb z) = R b z := by
  have hz : (z 0).val = 0 := Nat.lt_one_iff.mp (z 0).isLt
  have e0 : (rowR b).emb z 0 = b := Fin.ext (by show b.val + 1 * (z 0).val = b.val; omega)
  have e1 : (rowR b).emb z 1 = z 1 := Fin.ext (by show 0 + 1 * (z 1).val = (z 1).val; omega)
  unfold stacked
  rw [e0]
  refine congrArg (R b) (funext fun a => ?_)
  fin_cases a
  · exact Fin.ext hz.symm
  · exact e1

/-- The stores into the output block, read back. -/
theorem read_outPieces (q : Fin 8 → FVec F S1x128 .f32) (X : Fin 8 → Fin 8 → Vec F S1x256x128 .f32)
    (l : Vec F S256x256 .f32) (p : Vec F S256x128 .f32) {sig : RefSig} {κ : Kind} {sp : Space}
    (v : View sig κ sp S8x2048x128 .f32) (f : v.ty.Contents (Elt F)) :
    v.read (Elt F) (v.writes (Elt F) f (outPieces q X l p)) = tiled fun b k => outTile (q b) (X b) l p k := by
  have cover : ∀ y : S8x2048x128.Idx, ∃ pc ∈ outPieces q X l p, y ∈ pc.1.set := by
    intro y
    have h1 : (y 1).val < 2048 := (y 1).isLt
    refine ⟨⟨chunkR (y 0) (Fin.ofNat 8 ((y 1).val / 256)), _⟩, List.mem_flatMap.mpr ⟨y 0, mem_downFrom7 _,
      List.mem_map.mpr ⟨_, mem_downFrom7 _, rfl⟩⟩, ?_⟩
    rw [Rect.mem_set_unit]
    intro a
    fin_cases a
    · exact ⟨le_refl _, Nat.lt_succ_self _⟩
    · simp; omega
    · exact ⟨Nat.zero_le _, by simpa using (y 2).isLt⟩
  funext y
  rw [View.read_writes_apply_eq_canon v f y _ (cover y)]
  refine View.canon_apply_of_pieces (tiled fun b k => outTile (q b) (X b) l p k) _ ?_ y (cover y)
  intro pc hpc z
  obtain ⟨b, -, hb⟩ := List.mem_flatMap.mp hpc
  obtain ⟨k, -, rfl⟩ := List.mem_map.mp hb
  exact (tiled_at (fun b k => outTile (q b) (X b) l p k) b k z).symm

/-- The stores into the carried rows, read back. -/
theorem read_rowPieces (q : Fin 8 → FVec F S1x128 .f32) (X : Fin 8 → Fin 8 → Vec F S1x256x128 .f32)
    (l : Vec F S256x256 .f32) (p : Vec F S256x128 .f32) {sig : RefSig} {κ : Kind} {sp : Space}
    (v : View sig κ sp S8x128 .f32) (f : v.ty.Contents (Elt F)) :
    v.read (Elt F) (v.writes (Elt F) f (rowPieces q X l p)) = stacked fun b => endRow (q b) (X b) l p := by
  have cover : ∀ y : S8x128.Idx, ∃ pc ∈ rowPieces q X l p, y ∈ pc.1.set := by
    intro y
    refine ⟨⟨rowR (y 0), _⟩, List.mem_map.mpr ⟨_, mem_downFrom7 _, rfl⟩, ?_⟩
    rw [Rect.mem_set_unit]
    intro a
    fin_cases a
    · exact ⟨le_refl _, Nat.lt_succ_self _⟩
    · exact ⟨Nat.zero_le _, by simpa using (y 1).isLt⟩
  funext y
  rw [View.read_writes_apply_eq_canon v f y _ (cover y)]
  refine View.canon_apply_of_pieces (stacked fun b => endRow (q b) (X b) l p) _ ?_ y (cover y)
  intro pc hpc z
  obtain ⟨b, -, rfl⟩ := List.mem_map.mp hpc
  exact (stacked_at (fun b => endRow (q b) (X b) l p) b z).symm

/-- At the start of time the carried rows are not read. -/
theorem startRow_start (x : Vec F S8x2048x128 .f32) (r r' : Vec F S8x128 .f32) : startRow 1#1 x r = startRow 1#1 x r' := rfl

section Buffers

variable (c : Dev nD) (i : grid0.Coords)
    (arg2 : Memref sig .tc .vmem S8x2048x128 .f32) (harg2 : arg2.IsWhole) (arg3 : Memref sig .tc .vmem S8x2048x128 .f32) (harg3 : arg3.IsWhole)
    (arg4 : Memref sig .tc .vmem S256x256 .f32) (harg4 : arg4.IsWhole) (arg5 : Memref sig .tc .vmem S256x128 .f32) (harg5 : arg5.IsWhole)
    (arg6 : Memref sig .tc .vmem S8x128 .f32) (harg6 : arg6.IsWhole)
    (x : Vec F S8x2048x128 .f32) (l : Vec F S256x256 .f32) (p : Vec F S256x128 .f32) (r : Vec F S8x128 .f32)

/-- What the buffers hold after the body: at the first point, -/
theorem readA_out (hi : First i) (f : arg3.view.ty.Contents (Elt F)) :
    arg3.view.read (Elt F) (arg3.view.writes (Elt F) f (runA c i arg2 harg2 arg3 harg3 arg4 harg4 arg5 harg5 arg6 harg6 hi x r).1)
      = outBlock (atStart i) x r k0_pay4 k0_pay5 := by
  rw [runA_out, read_outPieces, covL_eq, covP_eq]; simp only [rawHead_eq, rawRow_eq]
  rw [show rawChunk arg2 harg2 x = chunks x from funext₂ fun b k => rawChunk_eq arg2 harg2 x b k]; rfl
theorem readA_rows (hi : First i) (f : arg6.view.ty.Contents (Elt F)) :
    arg6.view.read (Elt F) (arg6.view.writes (Elt F) f (runA c i arg2 harg2 arg3 harg3 arg4 harg4 arg5 harg5 arg6 harg6 hi x r).2.2.2.1)
      = newRows (atStart i) x r k0_pay4 k0_pay5 := by
  rw [runA_rows, read_rowPieces, covL_eq, covP_eq]; simp only [rawHead_eq, rawRow_eq]
  rw [show rawChunk arg2 harg2 x = chunks x from funext₂ fun b k => rawChunk_eq arg2 harg2 x b k]; rfl
theorem readA_l (hi : First i) (f : arg4.view.ty.Contents (Elt F)) :
    arg4.view.read (Elt F) (arg4.view.writes (Elt F) f (runA c i arg2 harg2 arg3 harg3 arg4 harg4 arg5 harg5 arg6 harg6 hi x r).2.1)
      = k0_pay4 := by
  rw [runA_l]; unfold lPieces; rw [View.read_writes_eq_canon _ _ _ fun y => ⟨_, List.mem_singleton_self _, View.mem_set_unit_zero (by decide) (by decide) y⟩]
  exact View.canon_unit_zero (by decide) _ _
theorem readA_p (hi : First i) (f : arg5.view.ty.Contents (Elt F)) :
    arg5.view.read (Elt F) (arg5.view.writes (Elt F) f (runA c i arg2 harg2 arg3 harg3 arg4 harg4 arg5 harg5 arg6 harg6 hi x r).2.2.1)
      = k0_pay5 := by
  rw [runA_p]; unfold pPieces; rw [View.read_writes_eq_canon _ _ _ fun y => ⟨_, List.mem_singleton_self _, View.mem_set_unit_zero (by decide) (by decide) y⟩]
  exact View.canon_unit_zero (by decide) _ _

/-- and at a later one. -/
theorem readB_out (hi : ¬First i) (f : arg3.view.ty.Contents (Elt F)) :
    arg3.view.read (Elt F) (arg3.view.writes (Elt F) f (runB c i arg2 harg2 arg3 harg3 arg4 harg4 arg5 harg5 arg6 harg6 hi x l p r).1)
      = outBlock (atStart i) x r l p := by
  rw [runB_out, read_outPieces, rawL_eq, rawP_eq]; simp only [rawHead_eq, rawRow_eq]
  rw [show rawChunk arg2 harg2 x = chunks x from funext₂ fun b k => rawChunk_eq arg2 harg2 x b k]; rfl
theorem readB_rows (hi : ¬First i) (f : arg6.view.ty.Contents (Elt F)) :
    arg6.view.read (Elt F) (arg6.view.writes (Elt F) f (runB c i arg2 harg2 arg3 harg3 arg4 harg4 arg5 harg5 arg6 harg6 hi x l p r).2.1)
      = newRows (atStart i) x r l p := by
  rw [runB_rows, read_rowPieces, rawL_eq, rawP_eq]; simp only [rawHead_eq, rawRow_eq]
  rw [show rawChunk arg2 harg2 x = chunks x from funext₂ fun b k => rawChunk_eq arg2 harg2 x b k]; rfl

end Buffers

end Cert.KernelIdeal.Body

end
-- ==== Proof.KernelIdeal.Run.lean ====
/- The launch: the contents of the scratch buffers point by point, the body's triple at any point, and the run of the
   whole program. -/
module

public import proofs.«01_k».proof.Proof.KernelIdeal.Tile
public import proofs.«01_k».proof.Proof.Gen.KernelIdeal.Points
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The input block of a point. -/
abbrev xAt (c : Dev nD) (t : Fin cfg0.N) : Vec F S8x2048x128 .f32 := iblk m c 0 t

/-- The carried rows after `n` points; before the first they are not read, and zero stands for them. -/
def rowsAt (c : Dev nD) : ℕ → Vec F S8x128 .f32
  | 0 => constant S8x128 .f32 0x00000000#32
  | n + 1 => if h : n < cfg0.N then newRows (atStart (grid0.coords ⟨n, h⟩)) (xAt m c ⟨n, h⟩) (rowsAt c n) k0_pay4 k0_pay5
      else rowsAt c n

theorem rowsAt_succ (c : Dev nD) (t : Fin cfg0.N) :
    rowsAt m c (t.val + 1) = newRows (atStart (grid0.coords t)) (xAt m c t) (rowsAt m c t.val) k0_pay4 k0_pay5 :=
  dif_pos t.isLt

/-- The output block of a point. -/
def outAt (c : Dev nD) (t : Fin cfg0.N) : Vec F S8x2048x128 .f32 :=
  outBlock (atStart (grid0.coords t)) (xAt m c t) (rowsAt m c t.val) k0_pay4 k0_pay5

/-- At the first point, whatever the carried rows hold. -/
theorem outAt_first (c : Dev nD) (t : Fin cfg0.N) (ht : t.val = 0) (r : Vec F S8x128 .f32) :
    outBlock (atStart (grid0.coords t)) (xAt m c t) r k0_pay4 k0_pay5 = outAt m c t := by
  have h1 : atStart (grid0.coords t) = 1#1 := (atStart_iff t).mpr (by rw [ht])
  unfold outAt outBlock; rw [h1, startRow_start _ r]
theorem rowsAt_first (c : Dev nD) (t : Fin cfg0.N) (ht : t.val = 0) (r : Vec F S8x128 .f32) :
    newRows (atStart (grid0.coords t)) (xAt m c t) r k0_pay4 k0_pay5 = rowsAt m c (t.val + 1) := by
  have h1 : atStart (grid0.coords t) = 1#1 := (atStart_iff t).mpr (by rw [ht])
  rw [rowsAt_succ]; unfold newRows; rw [h1, startRow_start _ r]

/-- The invariant after `n` points: the scratch buffers at anything before the first, the two tables and the carried
    rows afterwards; and the generator register. -/
def inv (c : Dev nD) : ℕ → sProp 𝕄
  | 0 => Pipeline.ΦA spec0 c
  | n + 1 => iprop(iprop(owns (c : Thread nD τ) lM fullShare k0_pay4 ∗ owns (c : Thread nD τ) pM fullShare k0_pay5
      ∗ owns (c : Thread nD τ) mM fullShare (rowsAt m c (n + 1))) ∗ (∃ r, prngReg c r))

theorem inv_pos (c : Dev nD) (n : ℕ) (hn : n ≠ 0) :
    inv m c n = iprop(iprop(owns (c : Thread nD τ) lM fullShare k0_pay4 ∗ owns (c : Thread nD τ) pM fullShare k0_pay5
      ∗ owns (c : Thread nD τ) mM fullShare (rowsAt m c n)) ∗ (∃ r, prngReg c r)) := by
  cases n with
  | zero => exact absurd rfl hn
  | succ n => rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outAt m c t
  Φ t := inv m c t.val
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val := by
  dsimp only [dats]; rfl
theorem inv_succ (c : Dev nD) (t : Fin cfg0.N) : (dats m 0 c).Φ t.succ = inv m c (t.val + 1) := by
  dsimp only [dats]; rfl

theorem after_in (c : Dev nD) (t : Fin cfg0.N) : (dats m 0 c).after 0 t = iblk m c 0 t := by dsimp only [dats]
theorem after_out (c : Dev nD) (t : Fin cfg0.N) : (dats m 0 c).after 1 t = outAt m c t := by dsimp only [dats]

theorem before_in (c : Dev nD) (t : Fin cfg0.N) (d) : (dats m 0 c).before 0 t d = iblk m c 0 t :=
  before0_0_of m (dats m 0 c) (A_eq m c 0) (after_in m c) t d

/-- What the body is called with, and what it returns. -/
def bodyPre (c : Dev nD) (t : Fin cfg0.N) : sProp 𝕄 :=
  iprop((dats m 0 c).Φ t.castSucc ∗ (dats m 0 c).owesAt () t.castSucc
    ∗ (∃ d, owns (c : Thread nD τ) (xM t) fullShare ((dats m 0 c).before 0 t d))
    ∗ (∃ d, owns (c : Thread nD τ) (oM t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (xM t) fullShare ((dats m 0 c).after 0 t)
    ∗ owns (c : Thread nD τ) (oM t) fullShare ((dats m 0 c).after 1 t))

set_option maxHeartbeats 3200000 in
/-- The body at any point, from the invariant to the invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl, after_in, after_out,
    inv_succ, inv_castSucc, inv_pos m c _ (Nat.succ_ne_zero _)]
  by_cases hz : t.val = 0
  · have hi : First (grid0.coords t) := (first_iff t).mpr hz
    rw [show inv m c t.val = Pipeline.ΦA spec0 c by rw [hz]; rfl, scratch_eq]
    iintro ⟨⟨⟨HL, HP, ⟨%r, HM⟩⟩, Hg⟩, Ho, ⟨%d0, H0⟩, ⟨%d1, H1⟩⟩
    iapply ((runA c (grid0.coords t) _ _ _ _ _ _ _ _ _ _ hi (xAt m c t) r).2.2.2.2 Set.univ _)
    isplitl [H0]; · iexact H0
    isplitl [H1]; · iexists _; iexact H1
    isplitl [HL]; · iexact HL
    isplitl [HP]; · iexact HP
    isplitl [HM]; · iexact HM
    iintro ⟨H0, ⟨%e1, H1⟩, ⟨%e2, HL⟩, ⟨%e3, HP⟩, HM⟩
    isplitl [HL HP HM Hg]
    · isplitl [HL HP HM]
      · isplitl [HL]
        · unfold owns; iexists _; isplitr
          swap; · iexact HL
          ipureintro; exact readA_l _ _ _ _ _ _ _ _ _ _ _ _ _ _ _ _
        isplitl [HP]
        · unfold owns; iexists _; isplitr
          swap; · iexact HP
          ipureintro; exact readA_p _ _ _ _ _ _ _ _ _ _ _ _ _ _ _ _
        unfold owns; iexists _; isplitr
        swap; · iexact HM
        ipureintro; exact (readA_rows _ _ _ _ _ _ _ _ _ _ _ _ _ _ _ _).trans (rowsAt_first m c t hz r)
      iexact Hg
    isplitl [Ho]; · iexact Ho
    isplitl [H0]; · iexact H0
    unfold owns; iexists _; isplitr
    swap; · iexact H1
    ipureintro; exact (readA_out _ _ _ _ _ _ _ _ _ _ _ _ _ _ _ _).trans (outAt_first m c t hz r)
  · have hi : ¬First (grid0.coords t) := fun h => hz ((first_iff t).mp h)
    rw [inv_pos m c _ hz]
    iintro ⟨⟨⟨HL, HP, HM⟩, Hg⟩, Ho, ⟨%d0, H0⟩, ⟨%d1, H1⟩⟩
    iapply ((runB c (grid0.coords t) _ _ _ _ _ _ _ _ _ _ hi (xAt m c t) k0_pay4 k0_pay5 (rowsAt m c t.val)).2.2 Set.univ _)
    isplitl [H0]; · iexact H0
    isplitl [H1]; · iexists _; iexact H1
    isplitl [HL]; · iexact HL
    isplitl [HP]; · iexact HP
    isplitl [HM]; · iexact HM
    iintro ⟨H0, ⟨%e1, H1⟩, HL, HP, HM⟩
    isplitl [HL HP HM Hg]
    · isplitl [HL HP HM]
      · isplitl [HL]; · iexact HL
        isplitl [HP]; · iexact HP
        unfold owns; iexists _; isplitr
        swap; · iexact HM
        ipureintro; exact (readB_rows _ _ _ _ _ _ _ _ _ _ _ _ _ _ _ _ _ _).trans (rowsAt_succ m c t).symm
      iexact Hg
    isplitl [Ho]; · iexact Ho
    isplitl [H0]; · iexact H0
    unfold owns; iexists _; isplitr
    swap; · iexact H1
    ipureintro; exact readB_out _ _ _ _ _ _ _ _ _ _ _ _ _ _ _ _ _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = inv m c cfg0.N from rfl,
    inv_pos m c _ (by rw [show cfg0.N = 16 from N_0]; decide), scratch_eq]
  iintro ⟨⟨HL, HP, HM⟩, Hg⟩
  isplitl [HL HP HM]
  · isplitl [HL]
    · iexists _; iexact HL
    isplitl [HP]
    · iexists _; iexact HP
    iexists _; iexact HM
  iexact Hg

set_option backward.isDefEq.respectTransparency.types false in
/-- The launch: what every buffer ends with, and the counters at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument ends as it was, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ))
    ((θ_run defs _ _).mono (fun _ h => h.2) (run_main_quiescent m ρ))

end Cert.KernelIdeal.Body

end
-- ==== Proof.Value.Ema.lean ====
/- The mathematics of the two programs, over the extended reals: the running average as a recurrence, the closed form by
   which a chunk of it is a weighted sum of the chunk's entries and of the average before it, and the normalisation of one
   entry written through a logarithm and through powers. -/
module

public import Idealize.ShloMosaic.Lib.IdealHost

@[expose] public section

noncomputable section

namespace Cert.Pcen

open Idealize.ShloMosaic

/-! ## The running average -/

/-- The weight of the new entry. -/
def smooth : EReal := ((1 / 40 : ℝ) : EReal)

/-- The weight of the average so far. -/
def decay : EReal := ((39 / 40 : ℝ) : EReal)

theorem smooth_pos : 0 < smooth := EReal.coe_pos.2 (by norm_num)
theorem decay_pos : 0 < decay := EReal.coe_pos.2 (by norm_num)

/-- The running average of a sequence: its first entry, then each time the decayed average and the weighted entry. -/
def ema (u : ℕ → EReal) : ℕ → EReal
  | 0 => u 0
  | n + 1 => decay * ema u n + smooth * u (n + 1)

/-- The average before time `n`; before the first entry, the first entry itself. -/
def before (u : ℕ → EReal) : ℕ → EReal
  | 0 => u 0
  | n + 1 => ema u n

theorem ema_nonneg {u : ℕ → EReal} (hu : ∀ n, 0 ≤ u n) : ∀ n, 0 ≤ ema u n
  | 0 => hu 0
  | n + 1 => add_nonneg (mul_nonneg decay_pos.le (ema_nonneg hu n)) (mul_nonneg smooth_pos.le (hu _))

theorem before_nonneg {u : ℕ → EReal} (hu : ∀ n, 0 ≤ u n) : ∀ n, 0 ≤ before u n
  | 0 => hu 0
  | n + 1 => ema_nonneg hu n

/-- One step of the average from the one before it, at the first entry too: the two weights add up to one. -/
theorem ema_step {u : ℕ → EReal} (n : ℕ) : decay * before u n + smooth * u n = ema u n := by
  cases n with
  | succ n => rfl
  | zero =>
    show decay * u 0 + smooth * u 0 = u 0
    rw [← EReal.right_distrib_of_nonneg decay_pos.le smooth_pos.le]
    show (((39 / 40 : ℝ) : EReal) + ((1 / 40 : ℝ) : EReal)) * u 0 = u 0
    rw [← EReal.coe_add, show ((39 / 40 : ℝ) + 1 / 40) = 1 by norm_num, EReal.coe_one, one_mul]

/-- An infinite entry makes the average infinite. -/
theorem ema_top {u : ℕ → EReal} (hu : ∀ n, 0 ≤ u n) (n : ℕ) (h : u n = ⊤) : ema u n = ⊤ := by
  have hb : decay * before u n ≠ ⊥ := fun e => by
    have := mul_nonneg decay_pos.le (before_nonneg hu n)
    rw [e] at this; exact absurd this (by simp)
  rw [← ema_step, h, EReal.mul_top_of_pos smooth_pos, EReal.add_top_of_ne_bot hb]

/-! ## A chunk of it as a weighted sum -/

/-- A factor at least zero goes into a sum of entries at least zero. -/
theorem mul_sum_nonneg {ι : Type*} (c : EReal) (s : Finset ι) (f : ι → EReal) (hf : ∀ k ∈ s, 0 ≤ f k) :
    c * ∑ k ∈ s, f k = ∑ k ∈ s, c * f k := by
  classical
  induction s using Finset.induction_on with
  | empty => simp
  | insert a s ha ih =>
    rw [Finset.sum_insert ha, Finset.sum_insert ha,
      EReal.left_distrib_of_nonneg (hf a (Finset.mem_insert_self a s)) (Finset.sum_nonneg fun k hk => hf k (Finset.mem_insert_of_mem hk)),
      ih fun k hk => hf k (Finset.mem_insert_of_mem hk)]

/-- The weight of an entry `d` steps back. -/
def weight (d : ℕ) : EReal := smooth * decay ^ d

theorem weight_nonneg (d : ℕ) : 0 ≤ weight d := mul_nonneg smooth_pos.le (pow_nonneg decay_pos.le d)

theorem decay_mul_weight (d : ℕ) : decay * weight d = weight (d + 1) := by
  unfold weight; rw [pow_succ, mul_left_comm, mul_comm decay]

/-- The average `i` steps into a chunk that starts at time `T`: the chunk's entries up to there by their weights, and what
    is left of the average before the chunk. -/
theorem chunk_eq {u : ℕ → EReal} (hu : ∀ n, 0 ≤ u n) (T : ℕ) : ∀ i : ℕ,
    (∑ k ∈ Finset.range (i + 1), weight (i - k) * u (T + k)) + decay ^ (i + 1) * before u T = ema u (T + i)
  | 0 => by
    rw [Finset.sum_range_one, Nat.sub_self, weight, pow_zero, mul_one, pow_one, add_comm]
    exact ema_step T
  | i + 1 => by
    have hs : ∀ k ∈ Finset.range (i + 1), 0 ≤ weight (i - k) * u (T + k) := fun k _ => mul_nonneg (weight_nonneg _) (hu _)
    rw [Finset.sum_range_succ, Nat.sub_self]
    have hr : ∑ k ∈ Finset.range (i + 1), weight (i + 1 - k) * u (T + k)
        = decay * ∑ k ∈ Finset.range (i + 1), weight (i - k) * u (T + k) := by
      rw [mul_sum_nonneg _ _ _ hs]
      refine Finset.sum_congr rfl fun k hk => ?_
      rw [← mul_assoc, decay_mul_weight, Nat.succ_sub (Nat.lt_succ_iff.1 (Finset.mem_range.1 hk))]
    rw [hr, pow_succ', mul_assoc, add_right_comm,
      ← EReal.left_distrib_of_nonneg (Finset.sum_nonneg hs) (mul_nonneg (pow_nonneg decay_pos.le _) (before_nonneg hu T)),
      chunk_eq hu T i, weight, pow_zero, mul_one]
    rfl

/-- The same sum over the whole chunk, the entries after time `T + i` by the weight zero. -/
theorem chunk_sum {u : ℕ → EReal} (hu : ∀ n, 0 ≤ u n) (T n i : ℕ) (hi : i < n) :
    (∑ k : Fin n, (if k.val ≤ i then weight (i - k.val) else 0) * u (T + k.val)) + decay ^ (i + 1) * before u T = ema u (T + i) := by
  rw [← chunk_eq hu T i]
  congr 1
  rw [Finset.sum_range fun k => weight (i - k) * u (T + k)]
  rw [Fin.sum_univ_eq_sum_range (fun k => (if k ≤ i then weight (i - k) else 0) * u (T + k)) n,
    Fin.sum_univ_eq_sum_range (fun k => weight (i - k) * u (T + k)) (i + 1)]
  refine (Finset.sum_subset_zero_on_sdiff (Finset.range_subset_range.2 hi) (fun k hk => ?_) fun k hk => ?_).symm
  · rw [Finset.mem_sdiff, Finset.mem_range, Finset.mem_range] at hk
    rw [if_neg (by omega), zero_mul]
  · rw [Finset.mem_range] at hk
    rw [if_pos (by omega)]

/-! ## The tables' exponentials -/

/-- The exponential of a multiple of the decay's logarithm is the decay's power. -/
theorem exp_mul_log_decay (d : ℕ) : Ideal.exp (((d : ℝ) : EReal) * ((Real.log (39 / 40) : ℝ) : EReal)) = decay ^ d := by
  rw [← EReal.coe_mul, Ideal.exp_coe, decay, ← EReal.coe_pow, Real.exp_nat_mul, Real.exp_log (by norm_num)]

/-! ## One entry's normalisation -/

/-- What an entry is divided by and offset with, through powers. -/
def byPowers (e b x m : EReal) : EReal := Ideal.pow (Ideal.div x (Ideal.pow (m + e) ((49 / 50 : ℝ) : EReal)) + 2) b

/-- The same through a logarithm and a reciprocal root. -/
def byLog (e c x m : EReal) : EReal :=
  (x * Ideal.exp2 (Ideal.log (m + e) * c) + 2) * Ideal.rsqrt (x * Ideal.exp2 (Ideal.log (m + e) * c) + 2)

/-- A positive number times its reciprocal root is its root. -/
theorem mul_rsqrt (y : ℝ) (hy : 0 < y) : (y : EReal) * Ideal.rsqrt y = Ideal.pow y ((1 / 2 : ℝ) : EReal) := by
  rw [Ideal.rsqrt_coe, if_neg hy.not_gt, if_neg hy.ne', ← EReal.coe_mul]
  show _ = ((Real.rpow y (1 / 2) : ℝ) : EReal)
  rw [show Real.rpow y (1 / 2) = Real.sqrt y from (Real.sqrt_eq_rpow y).symm]
  congr 1
  rw [← div_eq_mul_inv, Real.div_sqrt]

/-- Two to the `-49/50`-th of a number's binary logarithm is the inverse of its `49/50`-th power. -/
theorem exp2_log (a : ℝ) (ha : 0 < a) :
    Ideal.exp2 (Ideal.log (a : EReal) * ((-49 / 50 * (Real.log 2)⁻¹ : ℝ) : EReal)) = ((a ^ (49 / 50 : ℝ) : ℝ) : EReal)⁻¹ := by
  rw [Ideal.log_coe, if_neg ha.not_ge, ← EReal.coe_mul, Ideal.exp2_coe, ← EReal.coe_inv]
  congr 1
  have h2 : Real.log 2 ≠ 0 := (Real.log_pos (by norm_num)).ne'
  rw [← Real.rpow_neg ha.le, Real.rpow_eq_pow, Real.rpow_def_of_pos (by norm_num), Real.rpow_def_of_pos ha]
  congr 1
  field_simp

/-- The two normalisations are one, at entries and averages at least zero, the average infinite where the entry is. -/
theorem byLog_eq_byPowers (e : ℝ) (he : 0 < e) (x m : EReal) (hx : 0 ≤ x) (hm : 0 ≤ m) (hxm : x = ⊤ → m = ⊤) :
    byLog e ((-49 / 50 * (Real.log 2)⁻¹ : ℝ) : EReal) x m = byPowers e ((1 / 2 : ℝ) : EReal) x m := by
  have hc : ((-49 / 50 * (Real.log 2)⁻¹ : ℝ) : EReal) < 0 := EReal.coe_neg'.2
    (mul_neg_of_neg_of_pos (by norm_num) (inv_pos.2 (Real.log_pos (by norm_num))))
  have h2 : (2 : EReal) = ((2 : ℝ) : EReal) := rfl
  unfold byLog byPowers
  induction m using EReal.rec with
  | bot => exact absurd hm (by simp)
  | top =>
    rw [EReal.top_add_coe, Ideal.log_top, EReal.top_mul_of_neg hc, Ideal.exp2_bot, mul_zero, zero_add]
    rw [show Ideal.pow ⊤ ((49 / 50 : ℝ) : EReal) = ⊤ from if_pos (EReal.coe_pos.2 (by norm_num)), Ideal.div,
      if_neg EReal.top_ne_zero, EReal.inv_top, mul_zero, zero_add, h2]
    exact mul_rsqrt 2 (by norm_num)
  | coe r =>
    have hr : 0 < r + e := add_pos_of_nonneg_of_pos (EReal.coe_nonneg.1 hm) he
    induction x using EReal.rec with
    | bot => exact absurd hx (by simp)
    | top => exact absurd (hxm rfl) (EReal.coe_ne_top r)
    | coe t =>
      have ht : 0 ≤ t := EReal.coe_nonneg.1 hx
      have hp : 0 < (r + e) ^ (49 / 50 : ℝ) := Real.rpow_pos_of_pos hr _
      rw [← EReal.coe_add, exp2_log _ hr, show Ideal.pow ((r + e : ℝ) : EReal) ((49 / 50 : ℝ) : EReal) = (((r + e) ^ (49 / 50 : ℝ) : ℝ) : EReal) from rfl,
        Ideal.div, if_neg (fun h => hp.ne' (EReal.coe_eq_zero.1 h)), ← EReal.coe_inv, ← EReal.coe_mul, h2, ← EReal.coe_add]
      exact mul_rsqrt _ (add_pos_of_nonneg_of_pos (mul_nonneg ht (inv_pos.2 hp).le) (by norm_num))

/-! ## The programs' constants -/

/-- What is added to the average, as both programs spell it. -/
def eps : ℝ := 8796093 / 2 ^ 43

theorem eps_pos : 0 < eps := by unfold eps; norm_num

theorem ofBits_eps : Ideal.ofBits .f32 0x358637BD#32 = (eps : EReal) := by
  unfold eps; simp [Ideal.ofBits, Ideal.ieee, -EReal.coe_mul]; norm_num

theorem ofBits_two : Ideal.ofBits .f32 0x40000000#32 = 2 := by
  rw [show (2 : EReal) = ((2 : ℝ) : EReal) from rfl]
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_forty : Ideal.ofBits .f32 0x42200000#32 = ((40 : ℝ) : EReal) := by
  simp [Ideal.ofBits, Ideal.ieee, -EReal.coe_mul]; norm_num

theorem ofBits_fortyNine : Ideal.ofBits .f32 0x42440000#32 = ((49 : ℝ) : EReal) := by
  simp [Ideal.ofBits, Ideal.ieee, -EReal.coe_mul]; norm_num

theorem ofBits_fifty : Ideal.ofBits .f32 0x42480000#32 = ((50 : ℝ) : EReal) := by
  simp [Ideal.ofBits, Ideal.ieee, -EReal.coe_mul]; norm_num

/-- The reference's weight of a new entry, a quotient of two of its constants. -/
theorem one_div_forty : Ideal.div 1 ((40 : ℝ) : EReal) = smooth := by
  rw [Ideal.div, if_neg (fun h => by have := EReal.coe_eq_zero.1 h; norm_num at this), one_mul, ← EReal.coe_inv]
  unfold smooth; norm_num

/-- Its exponent, likewise. -/
theorem fortyNine_div_fifty : Ideal.div ((49 : ℝ) : EReal) ((50 : ℝ) : EReal) = ((49 / 50 : ℝ) : EReal) := by
  rw [Ideal.div, if_neg (fun h => by have := EReal.coe_eq_zero.1 h; norm_num at this), ← EReal.coe_inv, ← EReal.coe_mul]
  norm_num

/-- What is left of one beside the new entry's weight. -/
theorem one_sub_smooth : 1 - smooth = decay := by
  unfold smooth decay
  rw [← EReal.coe_one, ← EReal.coe_sub]; norm_num

end Cert.Pcen

end
-- ==== Proof.KernelIdeal.TileValue.lean ====
/- The kernel's chunks over the extended reals: a chunk's matrix product and carried row are the running average, its
   output the entries normalised by it. -/
module

public import proofs.«01_k».proof.Proof.KernelIdeal.Tile
public import proofs.«01_k».proof.Proof.Value.Ema

@[expose] public section

set_option maxRecDepth 16384

noncomputable section

namespace Cert.KernelIdeal.Body

open Idealize.ShloMosaic Idealize.ShloMosaic.TcCoe
open Cert.KernelIdeal.Gen Cert.Pcen

/-! ## The named constants and the tables' counters -/

theorem named_log_decay : Named.named (F := Ideal) (φ := .f32) κ "log_decay" 0xBCCF674B#32 = ((Real.log (39 / 40) : ℝ) : EReal) := rfl
theorem named_smooth : Named.named (F := Ideal) (φ := .f32) κ "smooth" 0x3CCCCCCD#32 = smooth := rfl
theorem named_exponent : Named.named (F := Ideal) (φ := .f32) κ "neg_alpha_log2e" 0xBFB4F8BF#32
    = (((-49 / 50) * (Real.log 2)⁻¹ : ℝ) : EReal) := rfl

/-- A word of a small number, as a float. -/
theorem sitofp_ofNat (n : ℕ) (h : n < 256) : FloatOps.sitofp (F := Ideal) .f32 (BitVec.ofNat 32 n) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  norm_cast

/-- The difference of two of them. -/
theorem sitofp_sub (i k : Fin 256) :
    FloatOps.sitofp (F := Ideal) .f32 (IntOp.subi (BitVec.ofNat 32 i.val) (BitVec.ofNat 32 k.val)) = (((i.val : ℝ) - (k.val : ℝ) : ℝ) : EReal) := by
  show (((BitVec.ofNat 32 i.val - BitVec.ofNat 32 k.val).toInt : ℝ) : EReal) = _
  have h : (BitVec.ofNat 32 i.val - BitVec.ofNat 32 k.val).toInt = (i.val : ℤ) - k.val := by
    have := i.isLt; have := k.isLt
    rw [BitVec.toInt_sub, BitVec.toInt_eq_toNat_of_lt (by rw [BitVec.toNat_ofNat]; omega),
      BitVec.toInt_eq_toNat_of_lt (by rw [BitVec.toNat_ofNat]; omega), BitVec.toNat_ofNat, BitVec.toNat_ofNat,
      Nat.mod_eq_of_lt (by omega), Nat.mod_eq_of_lt (by omega), Int.bmod_eq_of_le (by omega) (by omega)]
  rw [h]; norm_cast

/-! ## The payloads at an index -/

theorem pay1_at (q : FVec Ideal S1x128 .f32) (xb : FVec Ideal S256x128 .f32) (l : Vec Ideal S256x256 .f32) (p : Vec Ideal S256x128 .f32)
    (i : Fin 256) (c : Fin 128) :
    k0_pay1 q xb l p (ix2 i c) = (∑ k : Fin 256, l (ix2 i k) * xb (ix2 k c)) + p (ix2 i c) * q (ix2 0 c) := by
  pointwise [k0_pay1]

theorem pay6_at (v : Vec Ideal S1x256x128 .f32) (i : Fin 256) (c : Fin 128) : k0_pay6 v (ix2 i c) = v (ix3 0 i c) := by
  pointwise [k0_pay6]

theorem pay2_at (q : FVec Ideal S1x128 .f32) (xb : FVec Ideal S256x128 .f32) (l : Vec Ideal S256x256 .f32) (p : Vec Ideal S256x128 .f32)
    (z : Fin 1) (i : Fin 256) (c : Fin 128) :
    k0_pay2 q xb l p (ix3 z i c) = byLog eps ((-49 / 50 * (Real.log 2)⁻¹ : ℝ) : EReal) (xb (ix2 i c)) (k0_pay1 q xb l p (ix2 i c))
      - Ideal.ofBits .f32 0x3FB504F3#32 := by
  rw [byLog, ← ofBits_eps, ← ofBits_two]
  rw [← named_exponent]
  pointwise [k0_pay2]
  rfl

theorem pay3_at (q : FVec Ideal S1x128 .f32) (xb : FVec Ideal S256x128 .f32) (l : Vec Ideal S256x256 .f32) (p : Vec Ideal S256x128 .f32) (c : Fin 128) :
    k0_pay3 q xb l p (ix2 0 c) = k0_pay1 q xb l p (ix2 255 c) := by
  unfold k0_pay3
  generalize k0_pay1 q xb l p = r
  pointwise

theorem pay4_at (i k : Fin 256) : k0_pay4 (F := Ideal) (ix2 i k) = if k.val ≤ i.val then weight (i.val - k.val) else 0 := by
  pointwise [k0_pay4]
  rw [sitofp_sub, named_smooth, named_log_decay]
  by_cases h : k.val ≤ i.val
  · rw [← Nat.cast_sub h, exp_mul_log_decay, if_pos (EReal.coe_nonneg.2 (Nat.cast_nonneg _)), if_pos h]; rfl
  · rw [if_neg h, if_neg]
    rw [EReal.coe_nonneg, not_le, sub_neg, Nat.cast_lt]; omega

theorem pay5_at (i : Fin 256) (c : Fin 128) : k0_pay5 (F := Ideal) (ix2 i c) = decay ^ (i.val + 1) := by
  pointwise [k0_pay5]
  rw [sitofp_ofNat _ i.isLt, named_log_decay, ← exp_mul_log_decay, Nat.cast_add, Nat.cast_one, EReal.coe_add, EReal.coe_one]

variable (x : Vec Ideal S8x2048x128 .f32) (r : Vec Ideal S8x128 .f32)

theorem chunk_at (b k : Fin 8) (z : Fin 1) (i : Fin 256) (c : Fin 128) :
    View.ld x (chunkR b k) (ix3 z i c) = x (ix3 b ⟨256 * k.val + i.val, by omega⟩ c) := by
  pointwise

theorem startRow_at (s : BitVec 1) (b : Fin 8) (c : Fin 128) :
    startRow s x r b (ix2 0 c) = if s = 1#1 then x (ix3 b 0 c) else r (ix2 b c) := by
  pointwise [startRow, firstRow]
  rfl

/-! ## A row of a block -/

section Row

variable {u : ℕ → EReal} (hu : ∀ n, 0 ≤ u n) (T : ℕ) (c : Fin 128)
  (q : FVec Ideal S1x128 .f32) (X : Fin 8 → Vec Ideal S1x256x128 .f32)
  (hX : ∀ (k : Fin 8) (i : Fin 256), X k (ix3 0 i c) = u (T + 256 * k.val + i.val)) (hq : q (ix2 0 c) = before u T)

include hu hX in
/-- A chunk on the average before it is the average over it. -/
theorem chunk_ema (k : Fin 8) (i : Fin 256) (r : FVec Ideal S1x128 .f32) (hr : r (ix2 0 c) = before u (T + 256 * k.val)) :
    k0_pay1 r (k0_pay6 (X k)) (k0_pay4 (F := Ideal)) (k0_pay5 (F := Ideal)) (ix2 i c) = ema u (T + 256 * k.val + i.val) := by
  rw [pay1_at, pay5_at, hr, ← chunk_sum hu (T + 256 * k.val) 256 i.val i.isLt]
  congr 1
  refine Finset.sum_congr rfl fun j _ => ?_
  rw [pay4_at, pay6_at, hX]

include hu hX hq in
theorem prevRow_ema : ∀ k ≤ 7, prevRow q X (k0_pay4 (F := Ideal)) (k0_pay5 (F := Ideal)) k (ix2 0 c) = before u (T + 256 * k)
  | 0, _ => hq
  | k + 1, h => by
    have e : (Fin.ofNat 8 k).val = k := Nat.mod_eq_of_lt (by omega)
    have hc := chunk_ema hu T c X hX (Fin.ofNat 8 k) 255 (prevRow q X (k0_pay4 (F := Ideal)) (k0_pay5 (F := Ideal)) k) (by rw [e]; exact prevRow_ema k (by omega))
    rw [e] at hc
    have hs : prevRow q X (k0_pay4 (F := Ideal)) (k0_pay5 (F := Ideal)) (k + 1) (ix2 0 c)
        = k0_pay1 (prevRow q X (k0_pay4 (F := Ideal)) (k0_pay5 (F := Ideal)) k) (k0_pay6 (X (Fin.ofNat 8 k))) (k0_pay4 (F := Ideal)) (k0_pay5 (F := Ideal)) (ix2 255 c) := by
      rw [prevRow]
      generalize k0_pay1 (F := Ideal) _ _ _ _ = r
      pointwise
    rw [hs, hc]; rfl

include hu hX hq in
theorem endRow_ema : endRow q X (k0_pay4 (F := Ideal)) (k0_pay5 (F := Ideal)) (ix2 0 c) = before u (T + 2048) := by
  unfold endRow
  rw [pay3_at, chunk_ema hu T c X hX 7 255 _ (prevRow_ema hu T c q X hX hq 7 le_rfl)]
  rfl

include hu hX hq in
theorem outTile_ema (k : Fin 8) (z : Fin 1) (i : Fin 256) :
    outTile q X (k0_pay4 (F := Ideal)) (k0_pay5 (F := Ideal)) k (ix3 z i c)
      = byLog eps ((-49 / 50 * (Real.log 2)⁻¹ : ℝ) : EReal) (u (T + 256 * k.val + i.val)) (ema u (T + 256 * k.val + i.val))
        - Ideal.ofBits .f32 0x3FB504F3#32 := by
  unfold outTile
  rw [pay2_at, pay6_at, hX, chunk_ema hu T c X hX k i _ (prevRow_ema hu T c q X hX hq k.val (by omega))]

end Row

/-! ## A block -/

section Block

variable {u : ℕ → EReal} (hu : ∀ n, 0 ≤ u n) (T : ℕ) (b : Fin 8) (c : Fin 128) (s : BitVec 1)
  (hx : ∀ i : Fin 2048, x (ix3 b i c) = u (T + i.val)) (hs : startRow s x r b (ix2 0 c) = before u T)

include hx in
theorem chunks_at (k : Fin 8) (i : Fin 256) : chunks x b k (ix3 0 i c) = u (T + 256 * k.val + i.val) := by
  unfold chunks
  rw [chunk_at, hx]
  congr 1; simp only []; omega

include hu hx hs in
theorem newRows_ema : newRows s x r (k0_pay4 (F := Ideal)) (k0_pay5 (F := Ideal)) (ix2 b c) = before u (T + 2048) :=
  endRow_ema hu T c _ _ (chunks_at x T b c hx) hs

include hu hx hs in
theorem outBlock_ema (i : Fin 2048) :
    outBlock s x r (k0_pay4 (F := Ideal)) (k0_pay5 (F := Ideal)) (ix3 b i c)
      = byLog eps ((-49 / 50 * (Real.log 2)⁻¹ : ℝ) : EReal) (u (T + i.val)) (ema u (T + i.val)) - Ideal.ofBits .f32 0x3FB504F3#32 := by
  have h := outTile_ema hu T c _ _ (chunks_at x T b c hx) hs (Fin.ofNat 8 (i.val / 256)) 0 ⟨i.val % 256, Nat.mod_lt _ (by decide)⟩
  have e : T + 256 * (Fin.ofNat 8 (i.val / 256)).val + i.val % 256 = T + i.val := by
    have : (Fin.ofNat 8 (i.val / 256)).val = i.val / 256 := Nat.mod_eq_of_lt (by omega)
    omega
  rw [e] at h
  exact h

end Block

end Cert.KernelIdeal.Body

end
-- ==== Proof.ReferenceIdeal.Value.lean ====
/- What the reference computes: its loop keeps the running averages of the input's channels, and its result at an
   index is the entry there normalised by the average up to it. -/
module

public import proofs.«01_k».proof.Proof.Gen.ReferenceIdeal.Run
public import proofs.«01_k».proof.Proof.Value.Ema
public import Idealize.ShloMosaic.Lib.Pointwise
public import Idealize.ShloMosaic.Lib.Quiescent

@[expose] public section

noncomputable section

namespace Cert.ReferenceIdeal.Body

open Idealize.ShloMosaic Idealize.ShloMosaic.TcCoe Idealize.SL.Sem Idealize.ShloMosaic.StableHlo
open Cert.ReferenceIdeal Cert.ReferenceIdeal.Gen Cert.ReferenceIdeal.Value Cert.Pcen

/-- The input as the programs hold it. -/
abbrev Input := FVec Ideal S32x8192x128 .f32

/-- One channel of the input in time; past its end, its last entry. -/
def channel (x : Input) (b : Fin 32) (c : Fin 128) (n : ℕ) : EReal := x (ix3 b ⟨min n 8191, by omega⟩ c)

theorem channel_of_lt (x : Input) (b : Fin 32) (c : Fin 128) (n : ℕ) (h : n < 8192) : channel x b c n = x (ix3 b ⟨n, h⟩ c) := by
  unfold channel; congr 2; exact Fin.ext (by simp only []; omega)

/-! ## The operations of the loop -/

/-- The weight of a new entry, as @main computes it. -/
def weight0 : FVec Ideal S_ .f32 := Host.divf (constant S_ .f32 0x3F800000#32) (constant S_ .f32 0x42200000#32)

/-- The entries the loop goes over, time first. -/
def later (x : Input) : FVec Ideal S8191x32x128 .f32 :=
  transpose S8191x32x128 [1, 0, 2] (extractStridedSlice S32x8191x128 ![0, 1, 0] x slices_S32x8192x128_S32x8191x128_0_1_0) transposes_S32x8191x128_S8191x32x128_1_0_2

/-- The entries of the first time step. -/
def first (x : Input) : FVec Ideal S32x128 .f32 :=
  shapeCast S32x128 (extractStridedSlice S32x1x128 ![0, 0, 0] x slices_S32x8192x128_S32x1x128_0_0_0) shapeCasts_S32x1x128_S32x128

/-- Where a trip reads and writes along time. -/
def corner (n : IVec S_ 32) (k : Fin 3) : ℤ :=
  ((![n, constantI S_ 32 0#32, constantI S_ 32 0#32] : Fin 3 → IVec S_ 32) k (Shape.Idx.first h_S_)).toInt

/-- One trip's average. -/
def newRow (w : FVec Ideal S_ .f32) (r : FVec Ideal S32x128 .f32) (xs : FVec Ideal S8191x32x128 .f32) (n : IVec S_ 32) : FVec Ideal S32x128 .f32 :=
  addf (mulf (broadcastInDim S32x128 ![] bcast_S_S32x128 (subf (constant S_ .f32 0x3F800000#32) w)) r)
    (mulf (broadcastInDim S32x128 ![] bcast_S_S32x128 w)
      (shapeCast S32x128 (Host.dynamicSlice S1x32x128 xs (corner n) sliceFits_S8191x32x128_S1x32x128) shapeCasts_S1x32x128_S32x128))

/-- The averages so far with one trip's written. -/
def withRow (a : FVec Ideal S8191x32x128 .f32) (r : FVec Ideal S32x128 .f32) (n : IVec S_ 32) : FVec Ideal S8191x32x128 .f32 :=
  Host.dynamicUpdateSlice a (broadcastInDim S1x32x128 ![1, 2] bcast_S32x128_S1x32x128_1_2 r) (corner n) updateFits_S8191x32x128_S1x32x128

/-- What @main makes of the input and the averages after the first. -/
def result (x : Input) (a : FVec Ideal S8191x32x128 .f32) : Input :=
  subf (Host.powf (addf (Host.divf x (Host.powf (addf (concatenate S32x8192x128 1
      [⟨S32x1x128, extractStridedSlice S32x1x128 ![0, 0, 0] x slices_S32x8192x128_S32x1x128_0_0_0⟩,
       ⟨S32x8191x128, transpose S32x8191x128 [1, 0, 2] a transposes_S8191x32x128_S32x8191x128_1_0_2⟩] concatenates_S32x1x128_S32x8191x128_S32x8192x128_d1)
      (broadcastInDim S32x8192x128 ![] bcast_S_S32x8192x128 (constant S_ .f32 0x358637BD#32)))
      (broadcastInDim S32x8192x128 ![] bcast_S_S32x8192x128 (Host.divf (constant S_ .f32 0x42440000#32) (constant S_ .f32 0x42480000#32)))))
      (broadcastInDim S32x8192x128 ![] bcast_S_S32x8192x128 (constant S_ .f32 0x40000000#32)))
      (broadcastInDim S32x8192x128 ![] bcast_S_S32x8192x128 (constant S_ .f32 0x3F000000#32)))
    (broadcastInDim S32x8192x128 ![] bcast_S_S32x8192x128 (constant S_ .f32 0x3FB504F3#32))

theorem later_at (x : Input) (j : Fin 8191) (b : Fin 32) (c : Fin 128) : later x (ix3 j b c) = channel x b c (j.val + 1) := by
  rw [channel_of_lt x b c _ (by omega)]
  pointwise [later]
  simp only [Nat.add_comm]

theorem first_at (x : Input) (b : Fin 32) (c : Fin 128) : first x (ix2 b c) = channel x b c 0 := by
  rw [channel_of_lt x b c _ (by omega)]
  pointwise [first]

/-- A trip reads and writes at its own number, whole in the other axes. -/
theorem corner_time (n : Fin 8191) (ht) :
    Host.clampedStart S8191x32x128 S1x32x128 ht (corner (constantI S_ 32 (BitVec.ofNat 32 n.val))) 0 = n.val := by
  have hn : (BitVec.ofNat 32 n.val).toInt = (n.val : ℤ) := by
    rw [BitVec.toInt_eq_toNat_of_lt (by rw [BitVec.toNat_ofNat]; omega), BitVec.toNat_ofNat, Nat.mod_eq_of_lt (by omega)]
  exact Host.clampedStart_of_le ht _ 0 n.val hn (by show n.val + 1 ≤ 8191; omega)

theorem corner_batch (n : IVec S_ 32) (ht) : Host.clampedStart S8191x32x128 S1x32x128 ht (corner n) 1 = 0 :=
  Host.clampedStart_of_le ht _ 1 0 rfl (show 0 + 32 ≤ 32 by decide)

theorem corner_lane (n : IVec S_ 32) (ht) : Host.clampedStart S8191x32x128 S1x32x128 ht (corner n) 2 = 0 :=
  Host.clampedStart_of_le ht _ 2 0 rfl (show 0 + 128 ≤ 128 by decide)

theorem newRow_at (r : FVec Ideal S32x128 .f32) (xs : FVec Ideal S8191x32x128 .f32) (n : Fin 8191) (b : Fin 32) (c : Fin 128) :
    newRow weight0 r xs (constantI S_ 32 (BitVec.ofNat 32 n.val)) (ix2 b c) = decay * r (ix2 b c) + smooth * xs (ix3 n b c) := by
  rw [← one_sub_smooth, ← one_div_forty, ← ofBits_forty]
  pointwise [newRow, weight0]
  simp only [corner_time, corner_batch, corner_lane, Nat.zero_add]

theorem withRow_at (a : FVec Ideal S8191x32x128 .f32) (r : FVec Ideal S32x128 .f32) (n j : Fin 8191) (b : Fin 32) (c : Fin 128) :
    withRow a r (constantI S_ 32 (BitVec.ofNat 32 n.val)) (ix3 j b c) = if j = n then r (ix2 b c) else a (ix3 j b c) := by
  pointwise [withRow]
  simp only [corner_time, corner_batch, corner_lane, Nat.zero_le, and_true, Nat.sub_zero]
  by_cases h : j = n
  · rw [if_pos h, dif_pos (by rw [h]; omega)]
  · rw [if_neg h, dif_neg fun hj => h (Fin.ext (by omega))]

theorem result_at (x : Input) (a : FVec Ideal S8191x32x128 .f32) (b : Fin 32) (t : Fin 8192) (c : Fin 128) :
    result x a (ix3 b t c) = byPowers eps ((1 / 2 : ℝ) : EReal) (x (ix3 b t c))
      (if h : t.val < 1 then x (ix3 b t c) else a (ix3 ⟨t.val - 1, by omega⟩ b c)) - Ideal.ofBits .f32 0x3FB504F3#32 := by
  rw [byPowers, ← fortyNine_div_fifty, ← ofBits_fortyNine, ← ofBits_fifty, ← ofBits_half, ← ofBits_eps, ← ofBits_two]
  pointwise [result]

/-! ## The loop's contents -/

section Loop

variable (V0 : Valuation τ sig (Elt Ideal))

theorem step_3 : step_main_v6_3 V0 = newRow (V0 (Proc.devRef .tc main_v6_1)) (V0 (Proc.devRef .tc main_v6_3)) (V0 (Proc.devRef .tc main_v6_0)) (V0 (Proc.devRef .tc main_v6_2)) := rfl

theorem step_4 : step_main_v6_4 V0 = withRow (V0 (Proc.devRef .tc main_v6_4)) (step_main_v6_3 V0) (V0 (Proc.devRef .tc main_v6_2)) := rfl

theorem step_2 : step_main_v6_2 V0 = addi (V0 (Proc.devRef .tc main_v6_2)) (constantI S_ 32 1#32) := rfl

theorem out_eq : out_main_v21 V0 = result (V0 (Proc.devRef .tc main_arg0)) (V0 (Proc.devRef .tc main_v6_4)) := rfl

end Loop

/-- Before trip `n` the loop holds the averages up to time `n`, the one at time `n` in the row it carries. -/
structure Holds (V : Valuation τ sig (Elt Ideal)) (x : Input) (n : ℕ) : Prop where
  xs : V (Proc.devRef .tc main_v6_0) = later x
  weight : V (Proc.devRef .tc main_v6_1) = weight0
  trip : V (Proc.devRef .tc main_v6_2) = constantI S_ 32 (BitVec.ofNat 32 n)
  row : ∀ b c, (V (Proc.devRef .tc main_v6_3) : FVec Ideal S32x128 .f32) (ix2 b c) = ema (channel x b c) n
  rows : ∀ (j : Fin 8191) b c, j.val < n →
    (V (Proc.devRef .tc main_v6_4) : FVec Ideal S8191x32x128 .f32) (ix3 j b c) = ema (channel x b c) (j.val + 1)

theorem step_row {V : Valuation τ sig (Elt Ideal)} {x : Input} {n : ℕ} (h : Holds V x n) (hn : n < 8191) (b : Fin 32) (c : Fin 128) :
    (step_main_v6_3 V : FVec Ideal S32x128 .f32) (ix2 b c) = ema (channel x b c) (n + 1) := by
  rw [step_3, h.xs, h.weight, h.trip]
  refine (newRow_at _ _ ⟨n, hn⟩ b c).trans ?_
  rw [h.row, later_at]
  rfl

theorem holds_step {V : Valuation τ sig (Elt Ideal)} {x : Input} {n : ℕ} (h : Holds V x n) (hn : n < 8191) : Holds (STEP V) x (n + 1) where
  xs := (STEP_main_v6_0 V).trans h.xs
  weight := (STEP_main_v6_1 V).trans h.weight
  trip := by
    rw [STEP_main_v6_2, step_2, h.trip]
    funext i
    show BitVec.ofNat 32 n + 1#32 = BitVec.ofNat 32 (n + 1)
    rw [BitVec.ofNat_add]
  row b c := by rw [STEP_main_v6_3]; exact step_row h hn b c
  rows j b c hj := by
    rw [STEP_main_v6_4, step_4, h.trip]
    refine (withRow_at _ _ ⟨n, hn⟩ j b c).trans ?_
    split
    · next e => rw [step_row h hn, e]
    · next e => exact h.rows j b c (Nat.lt_of_le_of_ne (Nat.lt_succ_iff.1 hj) fun he => e (Fin.ext he))

section Run

variable (m : (ℓ : Loc nD τ sig) → Buf (Elt Ideal) ℓ) (c : Dev nD)

/-- The input of a device. -/
abbrev input : Input := m ((c.tc : Thread nD τ).loc main_arg0)

set_option maxRecDepth 65536 in
theorem holds_entry : Holds (entryContents preI m c) (input m c) 0 where
  xs := by simp only [entryContents, afterL_cons, afterL_nil]; after_reads_simp; rfl
  weight := by simp only [entryContents, afterL_cons, afterL_nil]; after_reads_simp; rfl
  trip := by simp only [entryContents, afterL_cons, afterL_nil]; after_reads_simp; rfl
  row b l := by
    have h : entryContents preI m c (Proc.devRef .tc main_v6_3) = first (input m c) := by
      simp only [entryContents, afterL_cons, afterL_nil]; after_reads_simp; rfl
    rw [h]; exact first_at _ b l
  rows j b l h := absurd h (Nat.not_lt_zero _)

theorem holds_iter : ∀ n ≤ 8191, Holds (STEP^[n] (entryContents preI m c)) (input m c) n
  | 0, _ => holds_entry m c
  | n + 1, h => by rw [Function.iterate_succ_apply']; exact holds_step (holds_iter n (by omega)) (by omega)

/-- The reference's result: every entry normalised by its channel's average up to it. -/
def spec (x : Input) : Input := fun j =>
  byPowers eps ((1 / 2 : ℝ) : EReal) (x j) (ema (channel x (j 0) (j 2)) (j 1).val) - Ideal.ofBits .f32 0x3FB504F3#32

theorem out_spec : out_main_v21 (STEP^[8191] (entryContents preI m c)) = spec (input m c) := by
  rw [out_eq, iter_main_arg0 m c 8191]
  funext j
  obtain ⟨b, t, l, rfl⟩ : ∃ (b : Fin 32) (t : Fin 8192) (l : Fin 128), j = ix3 b t l := ⟨j 0, j 1, j 2, eq_ix3 j⟩
  refine (result_at _ _ b t l).trans ?_
  show _ = byPowers eps ((1 / 2 : ℝ) : EReal) (input m c (ix3 b t l)) (ema (channel (input m c) b l) t.val) - _
  congr 2
  split
  · next h =>
    have ht : t = 0 := Fin.ext (by simpa using h)
    rw [ht]; exact (channel_of_lt _ b l 0 (by omega)).symm
  · next h =>
    rw [(holds_iter m c 8191 le_rfl).rows ⟨t.val - 1, by omega⟩ b l (by simp only []; omega)]
    congr 1; simp only []; omega

/-- THE REFERENCE'S RUN: the result is `spec` of the input, the input as it was, no counter left up. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v21) = spec (input m c)
      ∧ r.2.mem ((c.tc : Thread nD τ).loc main_arg0) = m ((c.tc : Thread nD τ).loc main_arg0) :=
  (θ_run defs _ _).mono (fun _ h c => ⟨(h c).1.trans (out_spec m c), (h c).2⟩) (Value.run m ρ)

theorem frame (ρ : Dev nD → PrngReg) : θ_run (defs (F := Ideal)) (onTc (τ := τ) (main (F := Ideal))) ⟨m, fun _ => 0, ρ⟩ fun r =>
    (∀ c : Dev nD, r.2.mem ((c.tc : Thread nD τ).loc main_arg0) = m ((c.tc : Thread nD τ).loc main_arg0)) ∧ r.2.sem = fun _ => 0 :=
  (θ_run defs _ _).mono (fun r h => ⟨fun c => (h c).2, sem_eq_zero_of_no_sems (by decide) r.2⟩) (Value.run m ρ)

end Run

end Cert.ReferenceIdeal.Body

end
-- ==== Proof.KernelIdeal.Value.lean ====
/- What the kernel computes over the extended reals: the rows carried from point to point are the running averages of
   the input's channels, so the blocks written are the blocks of the reference's result. -/
module

public import proofs.«01_k».proof.Proof.KernelIdeal.Run
public import proofs.«01_k».proof.Proof.KernelIdeal.TileValue
public import proofs.«01_k».proof.Proof.ReferenceIdeal.Value
public import Idealize.ShloMosaic.Lib.Pipeline.ValueKit

@[expose] public section

set_option maxRecDepth 16384

noncomputable section

namespace Cert.KernelIdeal.Body

open Idealize.ShloMosaic Idealize.ShloMosaic.TcCoe Idealize.ShloMosaic.Tactic Idealize.SL.Sem
open Cert.KernelIdeal.Gen Cert.Pcen
open Cert.ReferenceIdeal.Body (Input channel channel_of_lt spec)

variable (m : (ℓ : Loc nD τ sig) → Buf (Elt Ideal) ℓ) (c : Dev nD)

/-- The input. -/
abbrev input : Input := m ((c.tc : Thread nD τ).loc main_arg0)

/-! ## The input's blocks -/

theorem index_in : ∀ t : Fin cfg0.N, win0_0.index t = ![t.val / 4, t.val % 4, 0] := by decide +kernel
theorem index_out : ∀ t : Fin cfg0.N, win0_1.index t = ![t.val / 4, t.val % 4, 0] := by decide +kernel

theorem point_lt (t : Fin cfg0.N) : t.val < 16 := Nat.lt_of_lt_of_eq t.isLt N_0

/-- The batch row of a block's row. -/
def batchOf (n : ℕ) (h : n < 16) (b : Fin 8) : Fin 32 := ⟨8 * (n / 4) + b.val, by omega⟩

/-- A block of the input, as the channels it is cut from. -/
theorem xAt_at (t : Fin cfg0.N) (b : Fin 8) (i : Fin 2048) (l : Fin 128) :
    xAt m c t (ix3 b i l) = channel (input m c) (batchOf t.val (point_lt t) b) l (2048 * (t.val % 4) + i.val) := by
  rw [channel_of_lt _ _ _ _ (by omega)]
  blk_ext [iblk, V, index_in t, batchOf]

/-! ## The carried rows -/

variable (hx : ∀ j, 0 ≤ input m c j)

include hx in
theorem channel_nonneg (b : Fin 32) (l : Fin 128) (n : ℕ) : 0 ≤ channel (input m c) b l n := hx _

/-- A point's rows before its first chunk: at the first time block the input's own entry, later the carried rows. -/
theorem startRow_before (t : Fin cfg0.N) (b : Fin 8) (l : Fin 128)
    (h : t.val % 4 ≠ 0 → rowsAt m c t.val (ix2 b l) = before (channel (input m c) (batchOf t.val (point_lt t) b) l) (2048 * (t.val % 4))) :
    startRow (atStart (grid0.coords t)) (xAt m c t) (rowsAt m c t.val) b (ix2 0 l)
      = before (channel (input m c) (batchOf t.val (point_lt t) b) l) (2048 * (t.val % 4)) := by
  rw [startRow_at]
  by_cases h0 : t.val % 4 = 0
  · rw [if_pos ((atStart_iff t).mpr h0), xAt_at, h0]; rfl
  · rw [if_neg (fun e => h0 ((atStart_iff t).mp e)), h h0]

include hx in
/-- The rows a point finds are the averages of its channels up to its block. -/
theorem rowsAt_before (b : Fin 8) (l : Fin 128) : ∀ (n : ℕ) (hn : n < 16), n % 4 ≠ 0 →
    rowsAt m c n (ix2 b l) = before (channel (input m c) (batchOf n hn b) l) (2048 * (n % 4))
  | 0, _, h => absurd rfl h
  | n + 1, hn, h => by
    have hs := startRow_before m c ⟨n, Nat.lt_of_lt_of_eq (by omega : n < 16) N_0.symm⟩ b l (rowsAt_before b l n (by omega))
    have hr := newRows_ema (xAt m c ⟨n, Nat.lt_of_lt_of_eq (by omega : n < 16) N_0.symm⟩) (rowsAt m c n)
      (channel_nonneg m c hx _ l) (2048 * (n % 4)) b l _ (fun i => xAt_at m c _ b i l) hs
    rw [rowsAt_succ m c ⟨n, Nat.lt_of_lt_of_eq (by omega : n < 16) N_0.symm⟩, hr]
    have e1 : batchOf n (by omega) b = batchOf (n + 1) hn b := Fin.ext (by simp only [batchOf]; omega)
    have e2 : 2048 * (n % 4) + 2048 = 2048 * ((n + 1) % 4) := by omega
    simp only [e1, e2]

/-! ## The result -/

include hx in
/-- A point's output block, at an index: the reference's result there. -/
theorem outAt_spec (t : Fin cfg0.N) (b : Fin 8) (i : Fin 2048) (l : Fin 128) :
    outAt m c t (ix3 b i l) = spec (input m c) (ix3 (batchOf t.val (point_lt t) b) ⟨2048 * (t.val % 4) + i.val, by omega⟩ l) := by
  have hu := channel_nonneg m c hx (batchOf t.val (point_lt t) b) l
  unfold outAt
  rw [outBlock_ema (xAt m c t) (rowsAt m c t.val) hu (2048 * (t.val % 4)) b l _ (fun i => xAt_at m c t b i l)
      (startRow_before m c t b l (rowsAt_before m c hx b l t.val (point_lt t))),
    byLog_eq_byPowers eps eps_pos _ _ (hu _) (ema_nonneg hu _) (ema_top hu _), channel_of_lt _ _ _ _ (by omega)]
  rfl

include hx in
theorem final_out : (dats m 0 c).arrAt 1 cfg0.N = spec (input m c) := by
  refine (dats m 0 c).arrAt_eq_of_covers 1 _ (by decide +kernel) fun t hf y => ?_
  blk_simp
  rw [after_out]
  obtain ⟨b, i, l, rfl⟩ : ∃ (b : Fin 8) (i : Fin 2048) (l : Fin 128), y = ix3 b i l := ⟨y 0, y 1, y 2, eq_ix3 y⟩
  rw [outAt_spec m c hx]
  congr 1
  blk_ext [index_out t, batchOf]

/-- The kernel's run on a nonnegative input: it ends with the reference's result, the input as it was. -/
theorem run (hx : ∀ c j, 0 ≤ input m c j) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = spec (input m c)
      ∧ r.2.mem ((c.tc : Thread nD τ).loc main_arg0) = m ((c.tc : Thread nD τ).loc main_arg0) :=
  (θ_run defs _ _).mono (fun _ h c => ⟨((h c).1 1).trans (final_out m c (hx c)),
    ((h c).1 0).trans (((dats m 0 c).arrAt_in 0 rfl _).trans (A_eq m c 0))⟩) (run_main m ρ)

end Cert.KernelIdeal.Body

end
-- ==== Proof.lean ====
/- The certificate: the programs' side conditions, the three frames, the kernel's three named constants, and the
   equation of the kernel and the reference over the extended reals. -/
module

public import proofs.«01_k».proof.Defs
public import proofs.«01_k».proof.Proof.Kernel.Run
public import proofs.«01_k».proof.Proof.KernelIdeal.Value
public import proofs.«01_k».proof.Proof.ReferenceIdeal.Value
public import Idealize.ShloMosaic.Adequacy
public import Idealize.ShloMosaic.Init

@[expose] public section

noncomputable section

namespace Cert.Proof

open Idealize.ShloMosaic Idealize.SL.Sem

/-- The precondition's one side condition: a scalar broadcasts to the input's shape. -/
theorem pre_facts : Cert.Pre_nonneg.Facts where
  bcast_S_S32x8192x128 := by decide

/-- The precondition says of every entry that it is nonnegative. -/
theorem nonneg_of_pre [Cert.Pre_nonneg.Facts] (x : Cert.ReferenceIdeal.Body.Input)
    (h : Cert.Pre_nonneg.fn (F := Ideal) x = fun _ => 1#1) (j) : 0 ≤ x j := by
  have hj := congrFun h j
  pointwise [Cert.Pre_nonneg.fn] at hj
  by_contra hn
  rw [decide_eq_false hn] at hj
  exact absurd hj (by decide)

/-- The kernel's literals name the constants that the idealized kernel has in their place. -/
theorem preserves : Cert.preserves_Kernel_KernelIdeal :=
  ⟨IdealRules.named_const.statement _ _ _ _ _ rfl, IdealRules.named_const.statement _ _ _ _ _ rfl,
    IdealRules.named_const.statement _ _ _ _ _ rfl⟩

/-- On a nonnegative input the kernel and the reference compute the same. -/
theorem algebraic : Cert.algebraic_KernelIdeal_ReferenceIdeal_pre_nonneg (hKernelIdeal := Cert.KernelIdeal.Gen.facts)
    (hReferenceIdeal := Cert.ReferenceIdeal.Gen.facts) (hPre_nonneg := pre_facts) := fun m g m' g' hpre hagree =>
  ⟨fun c => Cert.ReferenceIdeal.Body.spec (Cert.KernelIdeal.Body.input m c),
    Cert.KernelIdeal.Body.run m (fun c j => @nonneg_of_pre pre_facts _ (hpre c) j) g,
    (θ_run Cert.ReferenceIdeal.defs _ _).mono
      (fun _ h c => ⟨(h c).1.trans (congrArg Cert.ReferenceIdeal.Body.spec (hagree c)), (h c).2⟩)
      (Cert.ReferenceIdeal.Body.run m' g')⟩

theorem claim : Cert.Claim :=
  ⟨Cert.Kernel.Gen.facts, Cert.KernelIdeal.Gen.facts, Cert.ReferenceIdeal.Gen.facts, pre_facts,
    fun m g _ => Cert.Kernel.Body.frame m g, fun m g _ => Cert.KernelIdeal.Body.frame m g,
    fun m g _ => Cert.KernelIdeal.Body.frame m g, fun m g _ => Cert.ReferenceIdeal.Body.frame m g,
    fun m g _ => Cert.ReferenceIdeal.Body.frame m g, preserves, algebraic⟩

end Cert.Proof

end
